-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_first_voxel [hPre_in_first_voxel : Cert.Pre_in_first_voxel.Facts] (m : (ℓ : Loc Cert.KernelIdeal.nD Cert.KernelIdeal.τ Cert.KernelIdeal.sig) → Buf (Elt Ideal) ℓ) : Prop :=
  ∀ c : Dev Cert.KernelIdeal.nD,
    (Cert.Pre_in_first_voxel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_first_voxel [hPre_in_first_voxel : Cert.Pre_in_first_voxel.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_first_voxel.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_first_voxel [hKernelIdeal : Cert.KernelIdeal.Facts] [hPre_in_first_voxel : Cert.Pre_in_first_voxel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_first_voxel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_first_voxel [hReferenceIdeal : Cert.ReferenceIdeal.Facts] [hPre_in_first_voxel : Cert.Pre_in_first_voxel.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_first_voxel m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_first_voxel [hKernelIdeal : Cert.KernelIdeal.Facts] [hReferenceIdeal : Cert.ReferenceIdeal.Facts] [hPre_in_first_voxel : Cert.Pre_in_first_voxel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_first_voxel m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_first_voxel : Cert.Pre_in_first_voxel.Facts),
    quiescent_Kernel (hKernel := hKernel)
    ∧ quiescent_KernelIdeal (hKernelIdeal := hKernelIdeal)
    ∧ quiescent_KernelIdeal_pre_in_first_voxel (hKernelIdeal := hKernelIdeal) (hPre_in_first_voxel := hPre_in_first_voxel)
    ∧ quiescent_ReferenceIdeal (hReferenceIdeal := hReferenceIdeal)
    ∧ quiescent_ReferenceIdeal_pre_in_first_voxel (hReferenceIdeal := hReferenceIdeal) (hPre_in_first_voxel := hPre_in_first_voxel)
    ∧ preserves_Kernel_KernelIdeal
    ∧ algebraic_KernelIdeal_ReferenceIdeal_pre_in_first_voxel (hKernelIdeal := hKernelIdeal) (hReferenceIdeal := hReferenceIdeal) (hPre_in_first_voxel := hPre_in_first_voxel)
-- ==== Pre_in_first_voxel.lean ====
abbrev S4x16x512x512 : Shape := ⟨4, ![4, 16, 512, 512]⟩
abbrev S4x512x512x2 : Shape := ⟨4, ![4, 512, 512, 2]⟩
abbrev S4x16x2x2 : Shape := ⟨4, ![4, 16, 2, 2]⟩
abbrev S_ : Shape := ⟨0, ![]⟩

class Facts : Prop where
  slices_S4x16x512x512_S4x16x2x2_0_0_0_0 : S4x16x512x512.Slices ![0, 0, 0, 0] S4x16x2x2
  bcast_S_S4x512x512x2 : S_.BroadcastsInDim S4x512x512x2 (![] : Fin 0 → Fin S4x512x512x2.rank)
  reducesTo_S4x512x512x2_S_d0_1_2_3 : S4x512x512x2.ReducesTo [0, 1, 2, 3] S_
  h_S_ : 0 < S_.numel
  bcast_S_S4x16x2x2 : S_.BroadcastsInDim S4x16x2x2 (![] : Fin 0 → Fin S4x16x2x2.rank)
  reducesTo_S4x16x2x2_S_d0_1_2_3 : S4x16x2x2.ReducesTo [0, 1, 2, 3] S_

variable [Facts]

def fn {F : FTy → Type} [FloatOps F] (main_arg0 : FVec F S4x16x512x512 .f32) (main_arg1 : FVec F S4x512x512x2 .f32) : IVec S_ 1 :=
  let main_v0 : FVec F S4x16x2x2 .f32 := (extractStridedSlice S4x16x2x2 ![0, 0, 0, 0] · slices_S4x16x512x512_S4x16x2x2_0_0_0_0) main_arg0
  let main_cst : FVec F S_ .f32 := constant S_ .f32 0x00000000#32
  let main_v1 : FVec F S4x512x512x2 .f32 := broadcastInDim S4x512x512x2 ![] bcast_S_S4x512x512x2 main_cst
  let main_v2 : IVec S4x512x512x2 1 := cmpf .oge main_arg1 main_v1
  let main_cst_0 : FVec F S_ .f32 := constant S_ .f32 0x3F800000#32
  let main_v3 : FVec F S4x512x512x2 .f32 := broadcastInDim S4x512x512x2 ![] bcast_S_S4x512x512x2 main_cst_0
  let main_v4 : IVec S4x512x512x2 1 := cmpf .olt main_arg1 main_v3
  let main_v5 : IVec S4x512x512x2 1 := andi main_v2 main_v4
  let main_c : IVec S_ 1 := constantI S_ 1 1#1
  let main_v6 : IVec S_ 1 := (fun x v => Host.reduce IntOp.andi x v reducesTo_S4x512x512x2_S_d0_1_2_3 h_S_) main_v5 main_c
  let main_v7 : FVec F S4x16x2x2 .f32 := Host.absf main_v0
  let main_cst_1 : FVec F S_ .f32 := constant S_ .f32 0x7F800000#32
  let main_v8 : FVec F S4x16x2x2 .f32 := broadcastInDim S4x16x2x2 ![] bcast_S_S4x16x2x2 main_cst_1
  let main_v9 : IVec S4x16x2x2 1 := cmpf .olt main_v7 main_v8
  let main_c_2 : IVec S_ 1 := constantI S_ 1 1#1
  let main_v10 : IVec S_ 1 := (fun x v => Host.reduce IntOp.andi x v reducesTo_S4x16x2x2_S_d0_1_2_3 h_S_) main_v9 main_c_2
  let main_v11 : IVec S_ 1 := andi main_v6 main_v10
  main_v11
-- ==== Kernel.lean ====
abbrev S4x16x512x512 : Shape := ⟨4, ![4, 16, 512, 512]⟩
abbrev S4x512x512x2 : Shape := ⟨4, ![4, 512, 512, 2]⟩
abbrev S4x16x2x2 : Shape := ⟨4, ![4, 16, 2, 2]⟩
abbrev S4x64 : Shape := ⟨2, ![4, 64]⟩
abbrev S4x512x512x1 : Shape := ⟨4, ![4, 512, 512, 1]⟩
abbrev S4x512x512 : Shape := ⟨3, ![4, 512, 512]⟩
abbrev S1x256x512 : Shape := ⟨3, ![1, 256, 512]⟩
abbrev S1x16x256x512 : Shape := ⟨4, ![1, 16, 256, 512]⟩
abbrev S256x512 : Shape := ⟨2, ![256, 512]⟩
abbrev S1x1 : Shape := ⟨2, ![1, 1]⟩
abbrev S1x1x256x512 : Shape := ⟨4, ![1, 1, 256, 512]⟩

abbrev nBuf : Space → Nat
  | .hbm => 11
  | .vmem => 6
  | .smem => 1
  | _ => 0

abbrev bufTy : (tb : Table) → Fin (tcTables nBuf tb) → BufTy
  | .hbm, ⟨0, _⟩ => ⟨S4x16x512x512, .f32⟩
  | .hbm, ⟨1, _⟩ => ⟨S4x512x512x2, .f32⟩
  | .hbm, ⟨2, _⟩ => ⟨S4x16x2x2, .f32⟩
  | .hbm, ⟨3, _⟩ => ⟨S4x64, .f32⟩
  | .hbm, ⟨4, _⟩ => ⟨S4x512x512x1, .f32⟩
  | .hbm, ⟨5, _⟩ => ⟨S4x512x512, .f32⟩
  | .hbm, ⟨6, _⟩ => ⟨S4x512x512, .bf16⟩
  | .hbm, ⟨7, _⟩ => ⟨S4x512x512x1, .f32⟩
  | .hbm, ⟨8, _⟩ => ⟨S4x512x512, .f32⟩
  | .hbm, ⟨9, _⟩ => ⟨S4x512x512, .bf16⟩
  | .hbm, ⟨10, _⟩ => ⟨S4x16x512x512, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x16x256x512, .f32⟩
  | .local _ .vmem, ⟨5, _⟩ => ⟨S1x16x256x512, .f32⟩
  | .local _ .smem, ⟨0, _⟩ => ⟨S4x64, .f32⟩
  | _, _ => ⟨S4x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let arg0 : BitVec 32 := BitVec.ofNat 32 (i 0).val
  let v6 : Index := Scalar.indexCast arg0
  let c0_5 : Index := 0#32
  ![v6.toNat, 0]
def k0_off2 (i : grid0.Coords) : Fin 2 → Nat :=
  let arg0 : BitVec 32 := BitVec.ofNat 32 (i 0).val
  let v8 : Index := Scalar.indexCast arg0
  let c1 : Index := 1#32
  ![v8.toNat, 1]
def k0_off3 (i : grid0.Coords) : Fin 2 → Nat :=
  let arg0 : BitVec 32 := BitVec.ofNat 32 (i 0).val
  let v10 : Index := Scalar.indexCast arg0
  let c2 : Index := 2#32
  ![v10.toNat, 2]
def k0_off4 (i : grid0.Coords) : Fin 2 → Nat :=
  let arg0 : BitVec 32 := BitVec.ofNat 32 (i 0).val
  let v12 : Index := Scalar.indexCast arg0
  let c3 : Index := 3#32
  ![v12.toNat, 3]
def k0_off5 (i : grid0.Coords) : Fin 2 → Nat :=
  let arg0 : BitVec 32 := BitVec.ofNat 32 (i 0).val
  let v32 : Index := Scalar.indexCast arg0
  let c4 : Index := 4#32
  ![v32.toNat, 4]
def k0_off6 (i : grid0.Coords) : Fin 2 → Nat :=
  let arg0 : BitVec 32 := BitVec.ofNat 32 (i 0).val
  let v34 : Index := Scalar.indexCast arg0
  let c5 : Index := 5#32
  ![v34.toNat, 5]
def k0_off7 (i : grid0.Coords) : Fin 2 → Nat :=
  let arg0 : BitVec 32 := BitVec.ofNat 32 (i 0).val
  let v36 : Index := Scalar.indexCast arg0
  let c6 : Index := 6#32
  ![v36.toNat, 6]
def k0_off8 (i : grid0.Coords) : Fin 2 → Nat :=
  let arg0 : BitVec 32 := BitVec.ofNat 32 (i 0).val
  let v38 : Index := Scalar.indexCast arg0
  let c7 : Index := 7#32
  ![v38.toNat, 7]
def k0_off9 (i : grid0.Coords) : Fin 2 → Nat :=
  let arg0 : BitVec 32 := BitVec.ofNat 32 (i 0).val
  let v58 : Index := Scalar.indexCast arg0
  let c8 : Index := 8#32
  ![v58.toNat, 8]
def k0_off10 (i : grid0.Coords) : Fin 2 → Nat :=
  let arg0 : BitVec 32 := BitVec.ofNat 32 (i 0).val
  let v60 : Index := Scalar.indexCast arg0
  let c9 : Index := 9#32
  ![v60.toNat, 9]
def k0_off11 (i : grid0.Coords) : Fin 2 → Nat :=
  let arg0 : BitVec 32 := BitVec.ofNat 32 (i 0).val
  let v62 : Index := Scalar.indexCast arg0
  let c10 : Index := 10#32
  ![v62.toNat, 10]
def k0_off12 (i : grid0.Coords) : Fin 2 → Nat :=
  let arg0 : BitVec 32 := BitVec.ofNat 32 (i 0).val
  let v64 : Index := Scalar.indexCast arg0
  let c11 : Index := 11#32
  ![v64.toNat, 11]
def k0_off13 (i : grid0.Coords) : Fin 2 → Nat :=
  let arg0 : BitVec 32 := BitVec.ofNat 32 (i 0).val
  let v84 : Index := Scalar.indexCast arg0
  let c12 : Index := 12#32
  ![v84.toNat, 12]
def k0_off14 (i : grid0.Coords) : Fin 2 → Nat :=
  let arg0 : BitVec 32 := BitVec.ofNat 32 (i 0).val
  let v86 : Index := Scalar.indexCast arg0
  let c13 : Index := 13#32
  ![v86.toNat, 13]
def k0_off15 (i : grid0.Coords) : Fin 2 → Nat :=
  let arg0 : BitVec 32 := BitVec.ofNat 32 (i 0).val
  let v88 : Index := Scalar.indexCast arg0
  let c14 : Index := 14#32
  ![v88.toNat, 14]
def k0_off16 (i : grid0.Coords) : Fin 2 → Nat :=
  let arg0 : BitVec 32 := BitVec.ofNat 32 (i 0).val
  let v90 : Index := Scalar.indexCast arg0
  let c15 : Index := 15#32
  ![v90.toNat, 15]
def k0_off17 (i : grid0.Coords) : Fin 2 → Nat :=
  let arg0 : BitVec 32 := BitVec.ofNat 32 (i 0).val
  let v110 : Index := Scalar.indexCast arg0
  let c16 : Index := 16#32
  ![v110.toNat, 16]
def k0_off18 (i : grid0.Coords) : Fin 2 → Nat :=
  let arg0 : BitVec 32 := BitVec.ofNat 32 (i 0).val
  let v112 : Index := Scalar.indexCast arg0
  let c17 : Index := 17#32
  ![v112.toNat, 17]
def k0_off19 (i : grid0.Coords) : Fin 2 → Nat :=
  let arg0 : BitVec 32 := BitVec.ofNat 32 (i 0).val
  let v114 : Index := Scalar.indexCast arg0
  let c18 : Index := 18#32
  ![v114.toNat, 18]
def k0_off20 (i : grid0.Coords) : Fin 2 → Nat :=
  let arg0 : BitVec 32 := BitVec.ofNat 32 (i 0).val
  let v116 : Index := Scalar.indexCast arg0
  let c19 : Index := 19#32
  ![v116.toNat, 19]
def k0_off21 (i : grid0.Coords) : Fin 2 → Nat :=
  let arg0 : BitVec 32 := BitVec.ofNat 32 (i 0).val
  let v136 : Index := Scalar.indexCast arg0
  let c20 : Index := 20#32
  ![v136.toNat, 20]
def k0_off22 (i : grid0.Coords) : Fin 2 → Nat :=
  let arg0 : BitVec 32 := BitVec.ofNat 32 (i 0).val
  let v138 : Index := Scalar.indexCast arg0
  let c21 : Index := 21#32
  ![v138.toNat, 21]
def k0_off23 (i : grid0.Coords) : Fin 2 → Nat :=
  let arg0 : BitVec 32 := BitVec.ofNat 32 (i 0).val
  let v140 : Index := Scalar.indexCast arg0
  let c22 : Index := 22#32
  ![v140.toNat, 22]
def k0_off24 (i : grid0.Coords) : Fin 2 → Nat :=
  let arg0 : BitVec 32 := BitVec.ofNat 32 (i 0).val
  let v142 : Index := Scalar.indexCast arg0
  let c23 : Index := 23#32
  ![v142.toNat, 23]
def k0_off25 (i : grid0.Coords) : Fin 2 → Nat :=
  let arg0 : BitVec 32 := BitVec.ofNat 32 (i 0).val
  let v162 : Index := Scalar.indexCast arg0
  let c24 : Index := 24#32
  ![v162.toNat, 24]
def k0_off26 (i : grid0.Coords) : Fin 2 → Nat :=
  let arg0 : BitVec 32 := BitVec.ofNat 32 (i 0).val
  let v164 : Index := Scalar.indexCast arg0
  let c25 : Index := 25#32
  ![v164.toNat, 25]
def k0_off27 (i : grid0.Coords) : Fin 2 → Nat :=
  let arg0 : BitVec 32 := BitVec.ofNat 32 (i 0).val
  let v166 : Index := Scalar.indexCast arg0
  let c26 : Index := 26#32
  ![v166.toNat, 26]
def k0_off28 (i : grid0.Coords) : Fin 2 → Nat :=
  let arg0 : BitVec 32 := BitVec.ofNat 32 (i 0).val
  let v168 : Index := Scalar.indexCast arg0
  let c27 : Index := 27#32
  ![v168.toNat, 27]
def k0_off29 (i : grid0.Coords) : Fin 2 → Nat :=
  let arg0 : BitVec 32 := BitVec.ofNat 32 (i 0).val
  let v188 : Index := Scalar.indexCast arg0
  let c28 : Index := 28#32
  ![v188.toNat, 28]
def k0_off30 (i : grid0.Coords) : Fin 2 → Nat :=
  let arg0 : BitVec 32 := BitVec.ofNat 32 (i 0).val
  let v190 : Index := Scalar.indexCast arg0
  let c29 : Index := 29#32
  ![v190.toNat, 29]
def k0_off31 (i : grid0.Coords) : Fin 2 → Nat :=
  let arg0 : BitVec 32 := BitVec.ofNat 32 (i 0).val
  let v192 : Index := Scalar.indexCast arg0
  let c30 : Index := 30#32
  ![v192.toNat, 30]
def k0_off32 (i : grid0.Coords) : Fin 2 → Nat :=
  let arg0 : BitVec 32 := BitVec.ofNat 32 (i 0).val
  let v194 : Index := Scalar.indexCast arg0
  let c31 : Index := 31#32
  ![v194.toNat, 31]
def k0_off33 (i : grid0.Coords) : Fin 2 → Nat :=
  let arg0 : BitVec 32 := BitVec.ofNat 32 (i 0).val
  let v214 : Index := Scalar.indexCast arg0
  let c32 : Index := 32#32
  ![v214.toNat, 32]
def k0_off34 (i : grid0.Coords) : Fin 2 → Nat :=
  let arg0 : BitVec 32 := BitVec.ofNat 32 (i 0).val
  let v216 : Index := Scalar.indexCast arg0
  let c33 : Index := 33#32
  ![v216.toNat, 33]
def k0_off35 (i : grid0.Coords) : Fin 2 → Nat :=
  let arg0 : BitVec 32 := BitVec.ofNat 32 (i 0).val
  let v218 : Index := Scalar.indexCast arg0
  let c34 : Index := 34#32
  ![v218.toNat, 34]
def k0_off36 (i : grid0.Coords) : Fin 2 → Nat :=
  let arg0 : BitVec 32 := BitVec.ofNat 32 (i 0).val
  let v220 : Index := Scalar.indexCast arg0
  let c35 : Index := 35#32
  ![v220.toNat, 35]
def k0_off37 (i : grid0.Coords) : Fin 2 → Nat :=
  let arg0 : BitVec 32 := BitVec.ofNat 32 (i 0).val
  let v240 : Index := Scalar.indexCast arg0
  let c36 : Index := 36#32
  ![v240.toNat, 36]
def k0_off38 (i : grid0.Coords) : Fin 2 → Nat :=
  let arg0 : BitVec 32 := BitVec.ofNat 32 (i 0).val
  let v242 : Index := Scalar.indexCast arg0
  let c37 : Index := 37#32
  ![v242.toNat, 37]
def k0_off39 (i : grid0.Coords) : Fin 2 → Nat :=
  let arg0 : BitVec 32 := BitVec.ofNat 32 (i 0).val
  let v244 : Index := Scalar.indexCast arg0
  let c38 : Index := 38#32
  ![v244.toNat, 38]
def k0_off40 (i : grid0.Coords) : Fin 2 → Nat :=
  let arg0 : BitVec 32 := BitVec.ofNat 32 (i 0).val
  let v246 : Index := Scalar.indexCast arg0
  let c39 : Index := 39#32
  ![v246.toNat, 39]
def k0_off41 (i : grid0.Coords) : Fin 2 → Nat :=
  let arg0 : BitVec 32 := BitVec.ofNat 32 (i 0).val
  let v266 : Index := Scalar.indexCast arg0
  let c40 : Index := 40#32
  ![v266.toNat, 40]
def k0_off42 (i : grid0.Coords) : Fin 2 → Nat :=
  let arg0 : BitVec 32 := BitVec.ofNat 32 (i 0).val
  let v268 : Index := Scalar.indexCast arg0
  let c41 : Index := 41#32
  ![v268.toNat, 41]
def k0_off43 (i : grid0.Coords) : Fin 2 → Nat :=
  let arg0 : BitVec 32 := BitVec.ofNat 32 (i 0).val
  let v270 : Index := Scalar.indexCast arg0
  let c42 : Index := 42#32
  ![v270.toNat, 42]
def k0_off44 (i : grid0.Coords) : Fin 2 → Nat :=
  let arg0 : BitVec 32 := BitVec.ofNat 32 (i 0).val
  let v272 : Index := Scalar.indexCast arg0
  let c43 : Index := 43#32
  ![v272.toNat, 43]
def k0_off45 (i : grid0.Coords) : Fin 2 → Nat :=
  let arg0 : BitVec 32 := BitVec.ofNat 32 (i 0).val
  let v292 : Index := Scalar.indexCast arg0
  let c44 : Index := 44#32
  ![v292.toNat, 44]
def k0_off46 (i : grid0.Coords) : Fin 2 → Nat :=
  let arg0 : BitVec 32 := BitVec.ofNat 32 (i 0).val
  let v294 : Index := Scalar.indexCast arg0
  let c45 : Index := 45#32
  ![v294.toNat, 45]
def k0_off47 (i : grid0.Coords) : Fin 2 → Nat :=
  let arg0 : BitVec 32 := BitVec.ofNat 32 (i 0).val
  let v296 : Index := Scalar.indexCast arg0
  let c46 : Index := 46#32
  ![v296.toNat, 46]
def k0_off48 (i : grid0.Coords) : Fin 2 → Nat :=
  let arg0 : BitVec 32 := BitVec.ofNat 32 (i 0).val
  let v298 : Index := Scalar.indexCast arg0
  let c47 : Index := 47#32
  ![v298.toNat, 47]
def k0_off49 (i : grid0.Coords) : Fin 2 → Nat :=
  let arg0 : BitVec 32 := BitVec.ofNat 32 (i 0).val
  let v318 : Index := Scalar.indexCast arg0
  let c48 : Index := 48#32
  ![v318.toNat, 48]
def k0_off50 (i : grid0.Coords) : Fin 2 → Nat :=
  let arg0 : BitVec 32 := BitVec.ofNat 32 (i 0).val
  let v320 : Index := Scalar.indexCast arg0
  let c49 : Index := 49#32
  ![v320.toNat, 49]
def k0_off51 (i : grid0.Coords) : Fin 2 → Nat :=
  let arg0 : BitVec 32 := BitVec.ofNat 32 (i 0).val
  let v322 : Index := Scalar.indexCast arg0
  let c50 : Index := 50#32
  ![v322.toNat, 50]
def k0_off52 (i : grid0.Coords) : Fin 2 → Nat :=
  let arg0 : BitVec 32 := BitVec.ofNat 32 (i 0).val
  let v324 : Index := Scalar.indexCast arg0
  let c51 : Index := 51#32
  ![v324.toNat, 51]
def k0_off53 (i : grid0.Coords) : Fin 2 → Nat :=
  let arg0 : BitVec 32 := BitVec.ofNat 32 (i 0).val
  let v344 : Index := Scalar.indexCast arg0
  let c52 : Index := 52#32
  ![v344.toNat, 52]
def k0_off54 (i : grid0.Coords) : Fin 2 → Nat :=
  let arg0 : BitVec 32 := BitVec.ofNat 32 (i 0).val
  let v346 : Index := Scalar.indexCast arg0
  let c53 : Index := 53#32
  ![v346.toNat, 53]
def k0_off55 (i : grid0.Coords) : Fin 2 → Nat :=
  let arg0 : BitVec 32 := BitVec.ofNat 32 (i 0).val
  let v348 : Index := Scalar.indexCast arg0
  let c54 : Index := 54#32
  ![v348.toNat, 54]
def k0_off56 (i : grid0.Coords) : Fin 2 → Nat :=
  let arg0 : BitVec 32 := BitVec.ofNat 32 (i 0).val
  let v350 : Index := Scalar.indexCast arg0
  let c55 : Index := 55#32
  ![v350.toNat, 55]
def k0_off57 (i : grid0.Coords) : Fin 2 → Nat :=
  let arg0 : BitVec 32 := BitVec.ofNat 32 (i 0).val
  let v370 : Index := Scalar.indexCast arg0
  let c56 : Index := 56#32
  ![v370.toNat, 56]
def k0_off58 (i : grid0.Coords) : Fin 2 → Nat :=
  let arg0 : BitVec 32 := BitVec.ofNat 32 (i 0).val
  let v372 : Index := Scalar.indexCast arg0
  let c57 : Index := 57#32
  ![v372.toNat, 57]
def k0_off59 (i : grid0.Coords) : Fin 2 → Nat :=
  let arg0 : BitVec 32 := BitVec.ofNat 32 (i 0).val
  let v374 : Index := Scalar.indexCast arg0
  let c58 : Index := 58#32
  ![v374.toNat, 58]
def k0_off60 (i : grid0.Coords) : Fin 2 → Nat :=
  let arg0 : BitVec 32 := BitVec.ofNat 32 (i 0).val
  let v376 : Index := Scalar.indexCast arg0
  let c59 : Index := 59#32
  ![v376.toNat, 59]
def k0_off61 (i : grid0.Coords) : Fin 2 → Nat :=
  let arg0 : BitVec 32 := BitVec.ofNat 32 (i 0).val
  let v396 : Index := Scalar.indexCast arg0
  let c60 : Index := 60#32
  ![v396.toNat, 60]
def k0_off62 (i : grid0.Coords) : Fin 2 → Nat :=
  let arg0 : BitVec 32 := BitVec.ofNat 32 (i 0).val
  let v398 : Index := Scalar.indexCast arg0
  let c61 : Index := 61#32
  ![v398.toNat, 61]
def k0_off63 (i : grid0.Coords) : Fin 2 → Nat :=
  let arg0 : BitVec 32 := BitVec.ofNat 32 (i 0).val
  let v400 : Index := Scalar.indexCast arg0
  let c62 : Index := 62#32
  ![v400.toNat, 62]
def k0_off64 (i : grid0.Coords) : Fin 2 → Nat :=
  let arg0 : BitVec 32 := BitVec.ofNat 32 (i 0).val
  let v402 : Index := Scalar.indexCast arg0
  let c63 : Index := 63#32
  ![v402.toNat, 63]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x16x512x512 : Shape := ⟨4, ![4, 16, 512, 512]⟩
abbrev S4x512x512x2 : Shape := ⟨4, ![4, 512, 512, 2]⟩
abbrev S4x512x512x16 : Shape := ⟨4, ![4, 512, 512, 16]⟩
abbrev S4x512x512x1 : Shape := ⟨4, ![4, 512, 512, 1]⟩
abbrev S4x512x512 : Shape := ⟨3, ![4, 512, 512]⟩
abbrev S_ : Shape := ⟨0, ![]⟩
abbrev S4 : Shape := ⟨1, ![4]⟩
abbrev S4x1x1 : Shape := ⟨3, ![4, 1, 1]⟩
abbrev S4x512x512x3 : Shape := ⟨4, ![4, 512, 512, 3]⟩

abbrev nBuf : Space → Nat
  | .hbm => 279
  | .vmem => 0
  | .smem => 0
  | _ => 0

abbrev hbmTy0_0 (i : Nat) : BufTy := match i % 128 with
  | 0 => ⟨S4x16x512x512, .f32⟩
  | 1 => ⟨S4x512x512x2, .f32⟩
  | 2 => ⟨S4x512x512x16, .f32⟩
  | 3 => ⟨S4x512x512x1, .f32⟩
  | 4 => ⟨S4x512x512, .f32⟩
  | 5 => ⟨S4x512x512x1, .f32⟩
  | 6 => ⟨S4x512x512, .f32⟩
  | 7 => ⟨S4x512x512, .f32⟩
  | 8 => ⟨S4x512x512, .f32⟩
  | 9 => ⟨S4x512x512, .f32⟩
  | 10 => ⟨S4x512x512, .f32⟩
  | 11 => ⟨S4x512x512, .i32⟩
  | 12 => ⟨S4x512x512, .i32⟩
  | 13 => ⟨S_, .i32⟩
  | 14 => ⟨S4x512x512, .i32⟩
  | 15 => ⟨S4x512x512, .i32⟩
  | 16 => ⟨S_, .i32⟩
  | 17 => ⟨S4x512x512, .i32⟩
  | 18 => ⟨S4x512x512, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S4x512x512, .i32⟩
  | 26 => ⟨S4x512x512, .i32⟩
  | 27 => ⟨S_, .i32⟩
  | 28 => ⟨S4x512x512, .i32⟩
  | 29 => ⟨S4x512x512, .i1⟩
  | 30 => ⟨S_, .i32⟩
  | 31 => ⟨S4x512x512, .i32⟩
  | 32 => ⟨S4x512x512, .i1⟩
  | 33 => ⟨S_, .i32⟩
  | 34 => ⟨S_, .i1⟩
  | 35 => ⟨S4x512x512, .i1⟩
  | 36 => ⟨S4x512x512, .i1⟩
  | 37 => ⟨S4x512x512, .i1⟩
  | 38 => ⟨S4x512x512, .i32⟩
  | 39 => ⟨S4x512x512, .i32⟩
  | 40 => ⟨S4x512x512, .i32⟩
  | 41 => ⟨S_, .i32⟩
  | 42 => ⟨S4x512x512, .i32⟩
  | 43 => ⟨S4x512x512, .i1⟩
  | 44 => ⟨S_, .i32⟩
  | 45 => ⟨S4x512x512, .i32⟩
  | 46 => ⟨S4x512x512, .i32⟩
  | 47 => ⟨S4x512x512, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S4x512x512, .i32⟩
  | 55 => ⟨S4x512x512, .i32⟩
  | 56 => ⟨S_, .i32⟩
  | 57 => ⟨S4x512x512, .i32⟩
  | 58 => ⟨S4x512x512, .i1⟩
  | 59 => ⟨S_, .i32⟩
  | 60 => ⟨S4x512x512, .i32⟩
  | 61 => ⟨S4x512x512, .i1⟩
  | 62 => ⟨S_, .i32⟩
  | 63 => ⟨S_, .i1⟩
  | 64 => ⟨S4x512x512, .i1⟩
  | 65 => ⟨S4x512x512, .i1⟩
  | 66 => ⟨S4x512x512, .i1⟩
  | 67 => ⟨S4x512x512, .i32⟩
  | 68 => ⟨S4x512x512, .i32⟩
  | 69 => ⟨S4x512x512, .i32⟩
  | 70 => ⟨S_, .i32⟩
  | 71 => ⟨S4x512x512, .i32⟩
  | 72 => ⟨S4x512x512, .i1⟩
  | 73 => ⟨S_, .i32⟩
  | 74 => ⟨S4x512x512, .i32⟩
  | 75 => ⟨S4x512x512, .i32⟩
  | 76 => ⟨S4x512x512, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S4x512x512, .i32⟩
  | 84 => ⟨S4x512x512, .i32⟩
  | 85 => ⟨S_, .i32⟩
  | 86 => ⟨S4x512x512, .i32⟩
  | 87 => ⟨S4x512x512, .i1⟩
  | 88 => ⟨S_, .i32⟩
  | 89 => ⟨S4x512x512, .i32⟩
  | 90 => ⟨S4x512x512, .i1⟩
  | 91 => ⟨S_, .i32⟩
  | 92 => ⟨S_, .i1⟩
  | 93 => ⟨S4x512x512, .i1⟩
  | 94 => ⟨S4x512x512, .i1⟩
  | 95 => ⟨S4x512x512, .i1⟩
  | 96 => ⟨S4x512x512, .i32⟩
  | 97 => ⟨S4x512x512, .i32⟩
  | 98 => ⟨S4x512x512, .i32⟩
  | 99 => ⟨S_, .i32⟩
  | 100 => ⟨S4x512x512, .i32⟩
  | 101 => ⟨S4x512x512, .i1⟩
  | 102 => ⟨S_, .i32⟩
  | 103 => ⟨S4x512x512, .i32⟩
  | 104 => ⟨S4x512x512, .i32⟩
  | 105 => ⟨S4x512x512, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S4x512x512, .i32⟩
  | 113 => ⟨S4x512x512, .i32⟩
  | 114 => ⟨S_, .i32⟩
  | 115 => ⟨S4x512x512, .i32⟩
  | 116 => ⟨S4x512x512, .i1⟩
  | 117 => ⟨S_, .i32⟩
  | 118 => ⟨S4x512x512, .i32⟩
  | 119 => ⟨S4x512x512, .i1⟩
  | 120 => ⟨S_, .i32⟩
  | 121 => ⟨S_, .i1⟩
  | 122 => ⟨S4x512x512, .i1⟩
  | 123 => ⟨S4x512x512, .i1⟩
  | 124 => ⟨S4x512x512, .i1⟩
  | 125 => ⟨S4x512x512, .i32⟩
  | 126 => ⟨S4x512x512, .i32⟩
  | 127 => ⟨S4x512x512, .i32⟩
  | _ => ⟨S4x16x512x512, .f32⟩

abbrev hbmTy0_1 (i : Nat) : BufTy := match i % 128 with
  | 0 => ⟨S_, .i32⟩
  | 1 => ⟨S4x512x512, .i32⟩
  | 2 => ⟨S4x512x512, .i1⟩
  | 3 => ⟨S_, .i32⟩
  | 4 => ⟨S4x512x512, .i32⟩
  | 5 => ⟨S4x512x512, .i32⟩
  | 6 => ⟨S4x512x512, .i32⟩
  | 7 => ⟨S4, .i32⟩
  | 8 => ⟨S4x1x1, .i32⟩
  | 9 => ⟨S_, .i32⟩
  | 10 => ⟨S4x1x1, .i32⟩
  | 11 => ⟨S4x1x1, .i1⟩
  | 12 => ⟨S_, .i32⟩
  | 13 => ⟨S4x1x1, .i32⟩
  | 14 => ⟨S4x1x1, .i32⟩
  | 15 => ⟨S4x1x1, .i32⟩
  | 16 => ⟨S_, .i32⟩
  | 17 => ⟨S4x512x512, .i32⟩
  | 18 => ⟨S4x512x512, .i1⟩
  | 19 => ⟨S_, .i32⟩
  | 20 => ⟨S4x512x512, .i32⟩
  | 21 => ⟨S4x512x512, .i32⟩
  | 22 => ⟨S4x512x512, .i32⟩
  | 23 => ⟨S_, .i32⟩
  | 24 => ⟨S4x512x512, .i32⟩
  | 25 => ⟨S4x512x512, .i1⟩
  | 26 => ⟨S_, .i32⟩
  | 27 => ⟨S4x512x512, .i32⟩
  | 28 => ⟨S4x512x512, .i32⟩
  | 29 => ⟨S4x512x512, .i32⟩
  | 30 => ⟨S4x512x512, .i32⟩
  | 31 => ⟨S4x512x512x1, .i32⟩
  | 32 => ⟨S4x512x512x1, .i32⟩
  | 33 => ⟨S4x512x512x1, .i32⟩
  | 34 => ⟨S4x512x512x3, .i32⟩
  | 35 => ⟨S4x512x512x16, .f32⟩
  | 36 => ⟨S_, .i32⟩
  | 37 => ⟨S4x1x1, .i32⟩
  | 38 => ⟨S4x1x1, .i1⟩
  | 39 => ⟨S_, .i32⟩
  | 40 => ⟨S4x1x1, .i32⟩
  | 41 => ⟨S4x1x1, .i32⟩
  | 42 => ⟨S4x1x1, .i32⟩
  | 43 => ⟨S_, .i32⟩
  | 44 => ⟨S4x512x512, .i32⟩
  | 45 => ⟨S4x512x512, .i1⟩
  | 46 => ⟨S_, .i32⟩
  | 47 => ⟨S4x512x512, .i32⟩
  | 48 => ⟨S4x512x512, .i32⟩
  | 49 => ⟨S4x512x512, .i32⟩
  | 50 => ⟨S_, .i32⟩
  | 51 => ⟨S4x512x512, .i32⟩
  | 52 => ⟨S4x512x512, .i1⟩
  | 53 => ⟨S_, .i32⟩
  | 54 => ⟨S4x512x512, .i32⟩
  | 55 => ⟨S4x512x512, .i32⟩
  | 56 => ⟨S4x512x512, .i32⟩
  | 57 => ⟨S4x512x512, .i32⟩
  | 58 => ⟨S4x512x512x1, .i32⟩
  | 59 => ⟨S4x512x512x1, .i32⟩
  | 60 => ⟨S4x512x512x1, .i32⟩
  | 61 => ⟨S4x512x512x3, .i32⟩
  | 62 => ⟨S4x512x512x16, .f32⟩
  | 63 => ⟨S_, .i32⟩
  | 64 => ⟨S4x1x1, .i32⟩
  | 65 => ⟨S4x1x1, .i1⟩
  | 66 => ⟨S_, .i32⟩
  | 67 => ⟨S4x1x1, .i32⟩
  | 68 => ⟨S4x1x1, .i32⟩
  | 69 => ⟨S4x1x1, .i32⟩
  | 70 => ⟨S_, .i32⟩
  | 71 => ⟨S4x512x512, .i32⟩
  | 72 => ⟨S4x512x512, .i1⟩
  | 73 => ⟨S_, .i32⟩
  | 74 => ⟨S4x512x512, .i32⟩
  | 75 => ⟨S4x512x512, .i32⟩
  | 76 => ⟨S4x512x512, .i32⟩
  | 77 => ⟨S_, .i32⟩
  | 78 => ⟨S4x512x512, .i32⟩
  | 79 => ⟨S4x512x512, .i1⟩
  | 80 => ⟨S_, .i32⟩
  | 81 => ⟨S4x512x512, .i32⟩
  | 82 => ⟨S4x512x512, .i32⟩
  | 83 => ⟨S4x512x512, .i32⟩
  | 84 => ⟨S4x512x512, .i32⟩
  | 85 => ⟨S4x512x512x1, .i32⟩
  | 86 => ⟨S4x512x512x1, .i32⟩
  | 87 => ⟨S4x512x512x1, .i32⟩
  | 88 => ⟨S4x512x512x3, .i32⟩
  | 89 => ⟨S4x512x512x16, .f32⟩
  | 90 => ⟨S_, .i32⟩
  | 91 => ⟨S4x1x1, .i32⟩
  | 92 => ⟨S4x1x1, .i1⟩
  | 93 => ⟨S_, .i32⟩
  | 94 => ⟨S4x1x1, .i32⟩
  | 95 => ⟨S4x1x1, .i32⟩
  | 96 => ⟨S4x1x1, .i32⟩
  | 97 => ⟨S_, .i32⟩
  | 98 => ⟨S4x512x512, .i32⟩
  | 99 => ⟨S4x512x512, .i1⟩
  | 100 => ⟨S_, .i32⟩
  | 101 => ⟨S4x512x512, .i32⟩
  | 102 => ⟨S4x512x512, .i32⟩
  | 103 => ⟨S4x512x512, .i32⟩
  | 104 => ⟨S_, .i32⟩
  | 105 => ⟨S4x512x512, .i32⟩
  | 106 => ⟨S4x512x512, .i1⟩
  | 107 => ⟨S_, .i32⟩
  | 108 => ⟨S4x512x512, .i32⟩
  | 109 => ⟨S4x512x512, .i32⟩
  | 110 => ⟨S4x512x512, .i32⟩
  | 111 => ⟨S4x512x512, .i32⟩
  | 112 => ⟨S4x512x512x1, .i32⟩
  | 113 => ⟨S4x512x512x1, .i32⟩
  | 114 => ⟨S4x512x512x1, .i32⟩
  | 115 => ⟨S4x512x512x3, .i32⟩
  | 116 => ⟨S4x512x512x16, .f32⟩
  | 117 => ⟨S4x512x512x1, .f32⟩
  | 118 => ⟨S4x512x512x1, .f32⟩
  | 119 => ⟨S_, .f32⟩
  | 120 => ⟨S4x512x512x1, .f32⟩
  | 121 => ⟨S4x512x512x1, .f32⟩
  | 122 => ⟨S4x512x512x16, .f32⟩
  | 123 => ⟨S4x512x512x16, .f32⟩
  | 124 => ⟨S_, .f32⟩
  | 125 => ⟨S4x512x512x1, .f32⟩
  | 126 => ⟨S4x512x512x1, .f32⟩
  | 127 => ⟨S4x512x512x16, .f32⟩
  | _ => ⟨S4x16x512x512, .f32⟩

abbrev hbmTy0_2 (i : Nat) : BufTy := match i % 128 with
  | 0 => ⟨S4x512x512x16, .f32⟩
  | 1 => ⟨S_, .f32⟩
  | 2 => ⟨S4x512x512x1, .f32⟩
  | 3 => ⟨S4x512x512x1, .f32⟩
  | 4 => ⟨S4x512x512x16, .f32⟩
  | 5 => ⟨S4x512x512x16, .f32⟩
  | 6 => ⟨S4x512x512x16, .f32⟩
  | 7 => ⟨S4x512x512x16, .f32⟩
  | 8 => ⟨S4x512x512x16, .f32⟩
  | 9 => ⟨S4x512x512x16, .f32⟩
  | 10 => ⟨S4x512x512x16, .f32⟩
  | 11 => ⟨S_, .f32⟩
  | 12 => ⟨S4x512x512x1, .f32⟩
  | 13 => ⟨S4x512x512x1, .f32⟩
  | 14 => ⟨S4x512x512x16, .f32⟩
  | 15 => ⟨S4x512x512x16, .f32⟩
  | 16 => ⟨S4x512x512x16, .f32⟩
  | 17 => ⟨S4x512x512x16, .f32⟩
  | 18 => ⟨S4x512x512x16, .f32⟩
  | 19 => ⟨S4x512x512x16, .f32⟩
  | 20 => ⟨S4x512x512x16, .f32⟩
  | 21 => ⟨S4x512x512x16, .f32⟩
  | 22 => ⟨S4x16x512x512, .f32⟩
  | _ => ⟨S4x16x512x512, .f32⟩

abbrev hbmTy (i : Nat) : BufTy := match i / 128 with
  | 0 => hbmTy0_0 i
  | 1 => hbmTy0_1 i
  | 2 => hbmTy0_2 i
  | _ => ⟨S4x16x512x512, .f32⟩

abbrev bufTy : (tb : Table) → Fin (tcTables nBuf tb) → BufTy
  | .hbm, ⟨i, _⟩ => hbmTy i
  | _, _ => ⟨S4x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_c_2 : Ref sig .tc := ⟨.hbm, 20, rfl⟩
abbrev main_v15 : Ref sig .tc := ⟨.hbm, 21, rfl⟩
abbrev main_c_3 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_8 : Ref sig .tc := ⟨.hbm, 41, rfl⟩
abbrev main_v30 : Ref sig .tc := ⟨.hbm, 42, rfl⟩
abbrev main_v31 : Ref sig .tc := ⟨.hbm, 43, rfl⟩
abbrev main_c_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_10 : Ref sig .tc := ⟨.hbm, 48, rfl⟩
abbrev main_c_11 : Ref sig .tc := ⟨.hbm, 49, rfl⟩
abbrev main_v35 : Ref sig .tc := ⟨.hbm, 50, rfl⟩
abbrev main_c_12 : Ref sig .tc := ⟨.hbm, 51, rfl⟩
abbrev main_c_13 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_14 : Ref sig .tc := ⟨.hbm, 56, rfl⟩
abbrev main_v39 : Ref sig .tc := ⟨.hbm, 57, rfl⟩
abbrev main_v40 : Ref sig .tc := ⟨.hbm, 58, rfl⟩
abbrev main_c_15 : Ref sig .tc := ⟨.hbm, 59, rfl⟩
abbrev main_v41 : Ref sig .tc := ⟨.hbm, 60, rfl⟩
abbrev main_v42 : Ref sig .tc := ⟨.hbm, 61, rfl⟩
abbrev main_c_16 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_17 : Ref sig .tc := ⟨.hbm, 70, rfl⟩
abbrev main_v50 : Ref sig .tc := ⟨.hbm, 71, rfl⟩
abbrev main_v51 : Ref sig .tc := ⟨.hbm, 72, rfl⟩
abbrev main_c_18 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_19 : Ref sig .tc := ⟨.hbm, 77, rfl⟩
abbrev main_c_20 : Ref sig .tc := ⟨.hbm, 78, rfl⟩
abbrev main_v55 : Ref sig .tc := ⟨.hbm, 79, rfl⟩
abbrev main_c_21 : Ref sig .tc := ⟨.hbm, 80, rfl⟩
abbrev main_c_22 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_23 : Ref sig .tc := ⟨.hbm, 85, rfl⟩
abbrev main_v59 : Ref sig .tc := ⟨.hbm, 86, rfl⟩
abbrev main_v60 : Ref sig .tc := ⟨.hbm, 87, rfl⟩
abbrev main_c_24 : Ref sig .tc := ⟨.hbm, 88, rfl⟩
abbrev main_v61 : Ref sig .tc := ⟨.hbm, 89, rfl⟩
abbrev main_v62 : Ref sig .tc := ⟨.hbm, 90, rfl⟩
abbrev main_c_25 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_26 : Ref sig .tc := ⟨.hbm, 99, rfl⟩
abbrev main_v70 : Ref sig .tc := ⟨.hbm, 100, rfl⟩
abbrev main_v71 : Ref sig .tc := ⟨.hbm, 101, rfl⟩
abbrev main_c_27 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_28 : Ref sig .tc := ⟨.hbm, 106, rfl⟩
abbrev main_c_29 : Ref sig .tc := ⟨.hbm, 107, rfl⟩
abbrev main_v75 : Ref sig .tc := ⟨.hbm, 108, rfl⟩
abbrev main_c_30 : Ref sig .tc := ⟨.hbm, 109, rfl⟩
abbrev main_c_31 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_32 : Ref sig .tc := ⟨.hbm, 114, rfl⟩
abbrev main_v79 : Ref sig .tc := ⟨.hbm, 115, rfl⟩
abbrev main_v80 : Ref sig .tc := ⟨.hbm, 116, rfl⟩
abbrev main_c_33 : Ref sig .tc := ⟨.hbm, 117, rfl⟩
abbrev main_v81 : Ref sig .tc := ⟨.hbm, 118, rfl⟩
abbrev main_v82 : Ref sig .tc := ⟨.hbm, 119, rfl⟩
abbrev main_c_34 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_35 : Ref sig .tc := ⟨.hbm, 128, rfl⟩
abbrev main_v90 : Ref sig .tc := ⟨.hbm, 129, rfl⟩
abbrev main_v91 : Ref sig .tc := ⟨.hbm, 130, rfl⟩
abbrev main_c_36 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_37 : Ref sig .tc := ⟨.hbm, 137, rfl⟩
abbrev main_v97 : Ref sig .tc := ⟨.hbm, 138, rfl⟩
abbrev main_v98 : Ref sig .tc := ⟨.hbm, 139, rfl⟩
abbrev main_c_38 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_39 : Ref sig .tc := ⟨.hbm, 144, rfl⟩
abbrev main_v102 : Ref sig .tc := ⟨.hbm, 145, rfl⟩
abbrev main_v103 : Ref sig .tc := ⟨.hbm, 146, rfl⟩
abbrev main_c_40 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_41 : Ref sig .tc := ⟨.hbm, 151, rfl⟩
abbrev main_v107 : Ref sig .tc := ⟨.hbm, 152, rfl⟩
abbrev main_v108 : Ref sig .tc := ⟨.hbm, 153, rfl⟩
abbrev main_c_42 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_43 : Ref sig .tc := ⟨.hbm, 164, rfl⟩
abbrev main_v118 : Ref sig .tc := ⟨.hbm, 165, rfl⟩
abbrev main_v119 : Ref sig .tc := ⟨.hbm, 166, rfl⟩
abbrev main_c_44 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_45 : Ref sig .tc := ⟨.hbm, 171, rfl⟩
abbrev main_v123 : Ref sig .tc := ⟨.hbm, 172, rfl⟩
abbrev main_v124 : Ref sig .tc := ⟨.hbm, 173, rfl⟩
abbrev main_c_46 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_c_47 : Ref sig .tc := ⟨.hbm, 178, rfl⟩
abbrev main_v128 : Ref sig .tc := ⟨.hbm, 179, rfl⟩
abbrev main_v129 : Ref sig .tc := ⟨.hbm, 180, rfl⟩
abbrev main_c_48 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_c_49 : Ref sig .tc := ⟨.hbm, 191, rfl⟩
abbrev main_v139 : Ref sig .tc := ⟨.hbm, 192, rfl⟩
abbrev main_v140 : Ref sig .tc := ⟨.hbm, 193, rfl⟩
abbrev main_c_50 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_c_51 : Ref sig .tc := ⟨.hbm, 198, rfl⟩
abbrev main_v144 : Ref sig .tc := ⟨.hbm, 199, rfl⟩
abbrev main_v145 : Ref sig .tc := ⟨.hbm, 200, rfl⟩
abbrev main_c_52 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_c_53 : Ref sig .tc := ⟨.hbm, 205, rfl⟩
abbrev main_v149 : Ref sig .tc := ⟨.hbm, 206, rfl⟩
abbrev main_v150 : Ref sig .tc := ⟨.hbm, 207, rfl⟩
abbrev main_c_54 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_c_55 : Ref sig .tc := ⟨.hbm, 218, rfl⟩
abbrev main_v160 : Ref sig .tc := ⟨.hbm, 219, rfl⟩
abbrev main_v161 : Ref sig .tc := ⟨.hbm, 220, rfl⟩
abbrev main_c_56 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_c_57 : Ref sig .tc := ⟨.hbm, 225, rfl⟩
abbrev main_v165 : Ref sig .tc := ⟨.hbm, 226, rfl⟩
abbrev main_v166 : Ref sig .tc := ⟨.hbm, 227, rfl⟩
abbrev main_c_58 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_c_59 : Ref sig .tc := ⟨.hbm, 232, rfl⟩
abbrev main_v170 : Ref sig .tc := ⟨.hbm, 233, rfl⟩
abbrev main_v171 : Ref sig .tc := ⟨.hbm, 234, rfl⟩
abbrev main_c_60 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_61 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_cst_62 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_cst_63 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩

abbrev nD : Nat := 1
abbrev τ : Topo := Topo.v7x

variable {F : FTy → Type} [FloatOps F]
-- ==== Proof.Block.lean ====
/- WHAT ONE GRID POINT OF THE KERNEL WRITES, element by element. The body stores sixteen pieces into its block, one per
   channel, each the same two nested interpolations (`mixed`) of four words of the corner table by the two fraction blocks.
   `out_apply`: the block's element (0, k, h, w) at a point of batch coordinate b is `mix` of the corner table's words
   (b, 4k) … (b, 4k + 3) by the fractions at (0, h, w). Over any float values: no arithmetic is used. -/
module

public import proofs.«01_k».proof.Proof.Gen.KernelIdeal.Frame
public import Idealize.ShloMosaic.Lib.Pipeline.ValueKit.Tiles
public import Idealize.ShloMosaic.Lib.ValueIdxCore

@[expose] public section

namespace Cert.Proof

open Cert.KernelIdeal Cert.KernelIdeal.Gen
open Idealize.ShloMosaic Idealize.ShloMosaic.TcCoe Idealize.ShloMosaic.Tactic Idealize.ShloMosaic.ValueIdx

variable {F : FTy → Type} [FloatOps F]

/-- Two nested interpolations of four corner values, as the kernel spells them: down the rows by `s`, across the columns
    by `t`. -/
def mix (v00 v01 v10 v11 s t : F .f32) : F .f32 :=
  FloatOps.addf (FloatOps.addf v00 (FloatOps.mulf s (Scalar.subf v10 v00)))
    (FloatOps.mulf t (FloatOps.addf (Scalar.subf v01 v00)
      (FloatOps.mulf s (Scalar.subf (Scalar.subf v11 v10) (Scalar.subf v01 v00)))))

/-- The same over a block of fractions `s` and `t`, as the body computes one channel and shapes it for its store. -/
noncomputable def mixed (s t : FVec F S256x512 .f32) (v00 v01 v10 v11 : F .f32) : FVec F S1x1x256x512 .f32 :=
  shapeCast S1x1x256x512
    (addf (addf (broadcast S256x512 v00) (mulf s (broadcast S256x512 (Scalar.subf v10 v00))))
      (mulf t (addf (broadcast S256x512 (Scalar.subf v01 v00))
        (mulf s (broadcast S256x512 (Scalar.subf (Scalar.subf v11 v10) (Scalar.subf v01 v00)))))))
    shapeCasts_S256x512_S1x1x256x512

/-- The corner table's index of batch `b`, channel `k` and corner `j` (row by row: 00, 01, 10, 11). -/
def cornerIdx (b : Fin 4) (k : Fin 16) (j : Fin 4) : S4x64.Idx := ix2 b ⟨4 * k.val + j.val, by omega⟩

/-- The block that a grid point of batch `b` writes, from the corner table and the two blocks of fractions. -/
def blockAt (b : Fin 4) (x0 : Vec F S4x64 .f32) (x1 x2 : Vec F S1x256x512 .bf16) (y : S1x16x256x512.Idx) : F .f32 :=
  mix (x0 (cornerIdx b (y 1) 0)) (x0 (cornerIdx b (y 1) 1)) (x0 (cornerIdx b (y 1) 2)) (x0 (cornerIdx b (y 1) 3))
    (extf .f32 x1 bitsLt_bf16_f32 (ix3 0 (y 2) (y 3))) (extf .f32 x2 bitsLt_bf16_f32 (ix3 0 (y 2) (y 3)))

theorem mixed_apply (s t : FVec F S256x512 .f32) (v00 v01 v10 v11 : F .f32) (x : S1x1x256x512.Idx) :
    mixed s t v00 v01 v10 v11 x = mix v00 v01 v10 v11 (s (ix2 (x 2) (x 3))) (t (ix2 (x 2) (x 3))) := by
  refine (shapeCast_apply _ _ x (ix2 (x 2) (x 3)) ?_).trans ?_
  swap
  · rfl
  have h0 : (x 0).val < 1 := (x 0).isLt
  have h1 : (x 1).val < 1 := (x 1).isLt
  rw [Shape.rowMajor_val_four, Shape.rowMajor_val_two]
  show (x 2).val * 512 + (x 3).val = (((x 0).val * 1 + (x 1).val) * 256 + (x 2).val) * 512 + (x 3).val
  omega

/-- A block of fractions dropped to two axes and widened, at (h, w). -/
theorem fraction_apply (v : Vec F S1x256x512 .bf16) (h : Fin 256) (w : Fin 512) :
    (extf .f32 (shapeCast S256x512 v shapeCasts_S1x256x512_S256x512) bitsLt_bf16_f32 : FVec F S256x512 .f32) (ix2 h w)
      = extf .f32 v bitsLt_bf16_f32 (ix3 0 h w) := by
  refine congrArg (FloatOps.extf (F := F) .f32 bitsLt_bf16_f32) (shapeCast_apply _ _ _ (ix3 0 h w) ?_)
  rw [Shape.rowMajor_val_three, Shape.rowMajor_val_two]
  show (0 * 256 + h.val) * 512 + w.val = h.val * 512 + w.val
  omega

/-- The batch coordinate's word is the coordinate: the offsets of the corner loads, in closed form. -/
theorem offset_eq (i : grid0.Coords) (n : Nat) :
    (![(Scalar.indexCast (BitVec.ofNat 32 (i 0).val) : BitVec 32).toNat, n] : Fin 2 → Nat) = ![(i 0).val, n] := by
  have e : (Scalar.indexCast (BitVec.ofNat 32 (i 0).val) : BitVec 32).toNat = (i 0).val :=
    (by decide +kernel : ∀ i : grid0.Coords, (Scalar.indexCast (BitVec.ofNat 32 (i 0).val) : BitVec 32).toNat = (i 0).val) i
  rw [e]

/-- A one-word load of the corner table. -/
theorem corner_apply (x0 : Vec F S4x64 .f32) (arg2 : Memref sig .tc .smem S4x64 .f32) (harg2 : arg2.IsWhole)
    (b : Fin 4) (k : Fin 16) (j : Fin 4) (o : Fin 2 → Nat) (inb : ∀ a, o a + S1x1.size a ≤ S4x64.size a)
    (ho : o = ![b.val, 4 * k.val + j.val]) (z : S1x1.Idx) :
    arg2.view.readAt (Elt F) (Rect.unit (s := S4x64) o S1x1.size inb).toLoadRect (harg2.unread x0) z
      = x0 (cornerIdx b k j) := by
  subst ho
  rw [View.readAt_eq_ld, harg2.read_unread]
  refine View.ld_unit_apply_of _ _ _ _ _ _ fun a => ?_
  have h0 : (z 0).val < 1 := (z 0).isLt
  have h1 : (z 1).val < 1 := (z 1).isLt
  match a with
  | ⟨0, _⟩ => show b.val = b.val + (z 0).val; omega
  | ⟨1, _⟩ => show 4 * k.val + j.val = 4 * k.val + j.val + (z 1).val; omega

/-- The load of a whole block of fractions. -/
theorem block_apply (arg : Memref sig .tc .vmem S1x256x512 .bf16) (harg : arg.IsWhole) (v : Vec F S1x256x512 .bf16) :
    arg.view.readAt (Elt F) (Rect.unit (s := S1x256x512) ![0, 0, 0] S1x256x512.size
      inb_S1x256x512_S1x256x512_0_0_0).toLoadRect (harg.unread v) = v := by
  have hz : (![0, 0, 0] : Fin 3 → Nat) = fun _ => 0 := by
    funext a
    match a with
    | ⟨0, _⟩ => rfl
    | ⟨1, _⟩ => rfl
    | ⟨2, _⟩ => rfl
  rw [View.readAt_eq_ld, harg.read_unread]
  exact View.ld_unit_zero hz _ _

/-- One channel's piece: where it holds `y` it has the block's value there. -/
theorem piece_at (i : grid0.Coords) (arg2 : Memref sig .tc .smem S4x64 .f32) (harg2 : arg2.IsWhole)
    (arg3 : Memref sig .tc .vmem S1x256x512 .bf16) (harg3 : arg3.IsWhole)
    (arg4 : Memref sig .tc .vmem S1x256x512 .bf16) (harg4 : arg4.IsWhole)
    (x0 : Vec F S4x64 .f32) (x1 x2 : Vec F S1x256x512 .bf16) (y : S1x16x256x512.Idx) (k : Fin 16)
    {o0 o1 o2 o3 : Fin 2 → Nat} {i0 : ∀ a, o0 a + S1x1.size a ≤ S4x64.size a} {i1 : ∀ a, o1 a + S1x1.size a ≤ S4x64.size a}
    {i2 : ∀ a, o2 a + S1x1.size a ≤ S4x64.size a} {i3 : ∀ a, o3 a + S1x1.size a ≤ S4x64.size a} {z : S1x1.Idx}
    (h0 : o0 = ![(i 0).val, 4 * k.val + 0]) (h1 : o1 = ![(i 0).val, 4 * k.val + 1])
    (h2 : o2 = ![(i 0).val, 4 * k.val + 2]) (h3 : o3 = ![(i 0).val, 4 * k.val + 3]) :
    View.TileAt (S := S1x16x256x512) (Val := Elt F) (e := .f32) y ![0, k.val, 0, 0] ![1, 1, 256, 512]
      (mixed
        (k0_pay2 (arg3.view.readAt (Elt F) (Rect.unit (s := S1x256x512) ![0, 0, 0] S1x256x512.size inb_S1x256x512_S1x256x512_0_0_0).toLoadRect (harg3.unread x1)))
        (k0_pay3 (arg4.view.readAt (Elt F) (Rect.unit (s := S1x256x512) ![0, 0, 0] S1x256x512.size inb_S1x256x512_S1x256x512_0_0_0).toLoadRect (harg4.unread x2)))
        (arg2.view.readAt (Elt F) (Rect.unit (s := S4x64) o0 S1x1.size i0).toLoadRect (harg2.unread x0) z)
        (arg2.view.readAt (Elt F) (Rect.unit (s := S4x64) o1 S1x1.size i1).toLoadRect (harg2.unread x0) z)
        (arg2.view.readAt (Elt F) (Rect.unit (s := S4x64) o2 S1x1.size i2).toLoadRect (harg2.unread x0) z)
        (arg2.view.readAt (Elt F) (Rect.unit (s := S4x64) o3 S1x1.size i3).toLoadRect (harg2.unread x0) z))
      (blockAt (i 0) x0 x1 x2 y) := by
  intro x hx
  have e1 : y 1 = k := Fin.ext (by
    have := hx 1; have h1 : (x 1).val < 1 := (x 1).isLt
    have e : (y 1).val = k.val + (x 1).val := this
    omega)
  have e2 : y 2 = x 2 := Fin.ext (by have e : (y 2).val = 0 + (x 2).val := hx 2; omega)
  have e3 : y 3 = x 3 := Fin.ext (by have e : (y 3).val = 0 + (x 3).val := hx 3; omega)
  rw [mixed_apply, block_apply arg3 harg3, block_apply arg4 harg4, corner_apply x0 arg2 harg2 (i 0) k 0 o0 i0 h0, corner_apply x0 arg2 harg2 (i 0) k 1 o1 i1 h1,
    corner_apply x0 arg2 harg2 (i 0) k 2 o2 i2 h2, corner_apply x0 arg2 harg2 (i 0) k 3 o3 i3 h3]
  unfold blockAt
  rw [e1, e2, e3]
  exact congrArg₂ (mix _ _ _ _) (fraction_apply x1 (x 2) (x 3)) (fraction_apply x2 (x 2) (x 3))

/-- THE BLOCK A GRID POINT WRITES, element by element. -/
theorem out_apply (c : Dev nD) (i : grid0.Coords) (arg2 : Memref sig .tc .smem S4x64 .f32) (harg2 : arg2.IsWhole)
    (arg3 : Memref sig .tc .vmem S1x256x512 .bf16) (harg3 : arg3.IsWhole) (arg4 : Memref sig .tc .vmem S1x256x512 .bf16)
    (harg4 : arg4.IsWhole) (arg5 : Memref sig .tc .vmem S1x16x256x512 .f32) (harg5 : arg5.IsWhole)
    (x0 : Vec F S4x64 .f32) (x1 x2 : Vec F S1x256x512 .bf16) (y : S1x16x256x512.Idx) :
    out0_A_3 c i arg2 harg2 arg3 harg3 arg4 harg4 arg5 harg5 x0 x1 x2 y = blockAt (i 0) x0 x1 x2 y := by
  unfold out0_A_3
  rw [View.read_writes_eq_canon _ _ _ (cover0_A_3 c i arg2 harg2 arg3 harg3 arg4 harg4 arg5 harg5 x0 x1 x2)]
  refine View.canon_eq_of_allAt _ y _ (cover0_A_3 c i arg2 harg2 arg3 harg3 arg4 harg4 arg5 harg5 x0 x1 x2 y) ?_
  unfold kernelRun0_A
  dsimp only
  have O := fun n => offset_eq i n
  have P := fun k => @piece_at F _ i arg2 harg2 arg3 harg3 arg4 harg4 x0 x1 x2 y k
  refine View.allAt_cons_unit _ _ _ _ _ (by sl_unfold_words; exact P 15 (O _) (O _) (O _) (O _)) ?_
  refine View.allAt_cons_unit _ _ _ _ _ (by sl_unfold_words; exact P 14 (O _) (O _) (O _) (O _)) ?_
  refine View.allAt_cons_unit _ _ _ _ _ (by sl_unfold_words; exact P 13 (O _) (O _) (O _) (O _)) ?_
  refine View.allAt_cons_unit _ _ _ _ _ (by sl_unfold_words; exact P 12 (O _) (O _) (O _) (O _)) ?_
  refine View.allAt_cons_unit _ _ _ _ _ (by sl_unfold_words; exact P 11 (O _) (O _) (O _) (O _)) ?_
  refine View.allAt_cons_unit _ _ _ _ _ (by sl_unfold_words; exact P 10 (O _) (O _) (O _) (O _)) ?_
  refine View.allAt_cons_unit _ _ _ _ _ (by sl_unfold_words; exact P 9 (O _) (O _) (O _) (O _)) ?_
  refine View.allAt_cons_unit _ _ _ _ _ (by sl_unfold_words; exact P 8 (O _) (O _) (O _) (O _)) ?_
  refine View.allAt_cons_unit _ _ _ _ _ (by sl_unfold_words; exact P 7 (O _) (O _) (O _) (O _)) ?_
  refine View.allAt_cons_unit _ _ _ _ _ (by sl_unfold_words; exact P 6 (O _) (O _) (O _) (O _)) ?_
  refine View.allAt_cons_unit _ _ _ _ _ (by sl_unfold_words; exact P 5 (O _) (O _) (O _) (O _)) ?_
  refine View.allAt_cons_unit _ _ _ _ _ (by sl_unfold_words; exact P 4 (O _) (O _) (O _) (O _)) ?_
  refine View.allAt_cons_unit _ _ _ _ _ (by sl_unfold_words; exact P 3 (O _) (O _) (O _) (O _)) ?_
  refine View.allAt_cons_unit _ _ _ _ _ (by sl_unfold_words; exact P 2 (O _) (O _) (O _) (O _)) ?_
  refine View.allAt_cons_unit _ _ _ _ _ (by sl_unfold_words; exact P 1 (O _) (O _) (O _) (O _)) ?_
  refine View.allAt_cons_unit _ _ _ _ _ (by sl_unfold_words; exact P 0 (O _) (O _) (O _) (O _)) ?_
  exact View.allAt_nil _ _

end Cert.Proof
-- ==== Proof.KernelValue.lean ====
/- WHAT THE KERNEL'S RUN LEAVES, IN THE ARGUMENTS. The windows' arrays are the corner table and the two rounded fraction
   planes that the operations before the call make of the arguments (`table_apply`, `plane_apply`); a grid point (b, i) takes
   the whole table and the rows 256·i … 256·i + 255 of batch b of each plane, and its block goes to the same rows of batch b
   of the result. So the result is `result` of the arguments, at every index (`final_eq`). Over any float values. -/
module

public import proofs.«01_k».proof.Proof.Block
public import proofs.«01_k».proof.Proof.Gen.KernelIdeal.Value
public import Idealize.ShloMosaic.Lib.Pipeline.ValueKit.Geometry
public import Idealize.ShloMosaic.Lib.StableHlo.Run

@[expose] public section

noncomputable section

namespace Cert.Proof

open Cert.KernelIdeal Cert.KernelIdeal.Gen
open Idealize.ShloMosaic Idealize.ShloMosaic.TcCoe Idealize.ShloMosaic.ValueIdx

variable {F : FTy → Type} [FloatOps F]

/-- A grid coordinate through the narrow format and back. -/
def narrowed (v : F .f32) : F .f32 := FloatOps.extf .f32 bitsLt_bf16_f32 (FloatOps.truncf .bf16 bitsLt_bf16_f32 v)

/-- The kernel's result in its arguments: at (b, k, h, w), the first cell's four corner values of channel k interpolated
    by the two grid coordinates of (b, h, w). -/
def result (x : Vec F S4x16x512x512 .f32) (g : Vec F S4x512x512x2 .f32) (y : S4x16x512x512.Idx) : F .f32 :=
  mix (x (ix4 (y 0) (y 1) 0 0)) (x (ix4 (y 0) (y 1) 0 1)) (x (ix4 (y 0) (y 1) 1 0)) (x (ix4 (y 0) (y 1) 1 1))
    (narrowed (g (ix4 (y 0) (y 2) (y 3) 0))) (narrowed (g (ix4 (y 0) (y 2) (y 3) 1)))

theorem mix_congr {a b c d s t a' b' c' d' s' t' : F .f32} (ha : a = a') (hb : b = b') (hc : c = c') (hd : d = d') (hs : s = s')
    (ht : t = t') : mix a b c d s t = mix a' b' c' d' s' t' := by
  subst ha hb hc hd hs ht
  rfl

variable (m : (ℓ : Loc nD τ sig) → Buf (Elt F) ℓ)

theorem V_main_v1 (c : Dev nD) : V m c main_v1
    = shapeCast S4x64 (extractStridedSlice S4x16x2x2 ![0, 0, 0, 0] (m ((c : Thread nD τ).loc main_arg0))
        slices_S4x16x512x512_S4x16x2x2_0_0_0_0) shapeCasts_S4x16x2x2_S4x64 := by
  show StableHlo.after hostOps0 _ (Proc.devRef .tc main_v1) = _
  after_results
  rfl

theorem V_main_v4 (c : Dev nD) : V m c main_v4
    = (truncf .bf16 (shapeCast S4x512x512 (extractStridedSlice S4x512x512x1 ![0, 0, 0, 0] (m ((c : Thread nD τ).loc main_arg1))
        slices_S4x512x512x2_S4x512x512x1_0_0_0_0) shapeCasts_S4x512x512x1_S4x512x512) bitsLt_bf16_f32 : FVec F S4x512x512 .bf16) := by
  show StableHlo.after hostOps0 _ (Proc.devRef .tc main_v4) = _
  after_results
  rfl

theorem V_main_v7 (c : Dev nD) : V m c main_v7
    = (truncf .bf16 (shapeCast S4x512x512 (extractStridedSlice S4x512x512x1 ![0, 0, 0, 1] (m ((c : Thread nD τ).loc main_arg1))
        slices_S4x512x512x2_S4x512x512x1_0_0_0_1) shapeCasts_S4x512x512x1_S4x512x512) bitsLt_bf16_f32 : FVec F S4x512x512 .bf16) := by
  show StableHlo.after hostOps0 _ (Proc.devRef .tc main_v7) = _
  after_results
  rfl

/-- The corner table's word (b, 4k + 2p + q) is the volume's element (b, k, p, q). -/
theorem table_apply {α : Type} (x : S4x16x512x512.Idx → α) (b : Fin 4) (k : Fin 16) (p q : Fin 2) (j : Fin 4)
    (hj : j.val = 2 * p.val + q.val) (z : S4x16x512x512.Idx)
    (hz : z = ix4 b k ⟨p.val, by omega⟩ ⟨q.val, by omega⟩) :
    shapeCast S4x64 (extractStridedSlice S4x16x2x2 ![0, 0, 0, 0] x slices_S4x16x512x512_S4x16x2x2_0_0_0_0)
      shapeCasts_S4x16x2x2_S4x64 (cornerIdx b k j) = x z := by
  subst hz
  refine (shapeCast_apply _ _ _ (ix4 b k p q) ?_).trans ?_
  · rw [Shape.rowMajor_val_four, Shape.rowMajor_val_two]
    show ((b.val * 16 + k.val) * 2 + p.val) * 2 + q.val = b.val * 64 + (4 * k.val + j.val)
    omega
  · refine congrArg x (funext fun a => Fin.ext ?_)
    match a with
    | ⟨0, _⟩ => exact Nat.zero_add _
    | ⟨1, _⟩ => exact Nat.zero_add _
    | ⟨2, _⟩ => exact Nat.zero_add _
    | ⟨3, _⟩ => exact Nat.zero_add _

/-- A plane of the grid: coordinate `q` at (b, h, w). -/
theorem plane_apply {α : Type} (g : S4x512x512x2.Idx → α) (q : Fin 2) (hs : S4x512x512x2.Slices ![0, 0, 0, q.val] S4x512x512x1)
    (b : Fin 4) (h w : Fin 512) :
    shapeCast S4x512x512 (extractStridedSlice S4x512x512x1 ![0, 0, 0, q.val] g hs) shapeCasts_S4x512x512x1_S4x512x512 (ix3 b h w)
      = g (ix4 b h w q) := by
  refine (shapeCast_apply _ _ _ (ix4 b h w 0) ?_).trans ?_
  · rw [Shape.rowMajor_val_four, Shape.rowMajor_val_three]
    show ((b.val * 512 + h.val) * 512 + w.val) * 1 + 0 = (b.val * 512 + h.val) * 512 + w.val
    omega
  · refine congrArg g (funext fun a => Fin.ext ?_)
    match a with
    | ⟨0, _⟩ => exact Nat.zero_add _
    | ⟨1, _⟩ => exact Nat.zero_add _
    | ⟨2, _⟩ => exact Nat.zero_add _
    | ⟨3, _⟩ => exact Nat.add_zero _

/-- The windows' block indices at a grid point, in its coordinates. -/
theorem idx_facts : ∀ t : Fin cfg0.N,
    win0_0.index t (0 : Fin 2) = 0 ∧ win0_0.index t (1 : Fin 2) = 0
    ∧ (win0_1.index t (0 : Fin 3) = (grid0.coords t 0).val ∧ win0_1.index t (1 : Fin 3) = (grid0.coords t 1).val ∧ win0_1.index t (2 : Fin 3) = 0)
    ∧ (win0_2.index t (0 : Fin 3) = (grid0.coords t 0).val ∧ win0_2.index t (1 : Fin 3) = (grid0.coords t 1).val ∧ win0_2.index t (2 : Fin 3) = 0)
    ∧ (win0_3.index t (0 : Fin 4) = (grid0.coords t 0).val ∧ win0_3.index t (1 : Fin 4) = 0
      ∧ win0_3.index t (2 : Fin 4) = (grid0.coords t 1).val ∧ win0_3.index t (3 : Fin 4) = 0) :=
  (by decide +kernel : ∀ t : Fin grid0.N, _)

/-- Row `h` of the point's block of rows. -/
def rowAt (t : Fin cfg0.N) (h : Fin 256) : Fin 512 :=
  ⟨(grid0.coords t 1).val * 256 + h.val, by have : (grid0.coords t 1).val < 2 := (grid0.coords t 1).isLt; omega⟩

theorem emb0 (t : Fin cfg0.N) (z : S4x64.Idx) : ((cfg0.win 0).blk t).view.emb z = z := by
  obtain ⟨e0, e1, _⟩ := idx_facts t
  funext a; apply Fin.ext
  match a with
  | ⟨0, _⟩ => show win0_0.index t (0 : Fin 2) * 4 + 1 * (z 0).val = (z 0).val; omega
  | ⟨1, _⟩ => show win0_0.index t (1 : Fin 2) * 64 + 1 * (z 1).val = (z 1).val; omega

theorem emb1 (t : Fin cfg0.N) (h : Fin 256) (w : Fin 512) :
    ((cfg0.win 1).blk t).view.emb (ix3 (0 : Fin 1) h w) = (ix3 (grid0.coords t 0 : Fin 4) (rowAt t h) w : S4x512x512.Idx) := by
  obtain ⟨_, _, ⟨e0, e1, e2⟩, _⟩ := idx_facts t
  funext a; apply Fin.ext
  match a with
  | ⟨0, _⟩ => show win0_1.index t (0 : Fin 3) * 1 + 1 * 0 = (grid0.coords t 0).val; omega
  | ⟨1, _⟩ => show win0_1.index t (1 : Fin 3) * 256 + 1 * h.val = (grid0.coords t 1).val * 256 + h.val; omega
  | ⟨2, _⟩ => show win0_1.index t (2 : Fin 3) * 512 + 1 * w.val = w.val; omega

theorem emb2 (t : Fin cfg0.N) (h : Fin 256) (w : Fin 512) :
    ((cfg0.win 2).blk t).view.emb (ix3 (0 : Fin 1) h w) = (ix3 (grid0.coords t 0 : Fin 4) (rowAt t h) w : S4x512x512.Idx) := by
  obtain ⟨_, _, _, ⟨e0, e1, e2⟩, _⟩ := idx_facts t
  funext a; apply Fin.ext
  match a with
  | ⟨0, _⟩ => show win0_2.index t (0 : Fin 3) * 1 + 1 * 0 = (grid0.coords t 0).val; omega
  | ⟨1, _⟩ => show win0_2.index t (1 : Fin 3) * 256 + 1 * h.val = (grid0.coords t 1).val * 256 + h.val; omega
  | ⟨2, _⟩ => show win0_2.index t (2 : Fin 3) * 512 + 1 * w.val = w.val; omega

theorem emb3 (t : Fin cfg0.N) (y : S1x16x256x512.Idx) :
    ((cfg0.win 3).blk t).view.emb y = (ix4 (grid0.coords t 0 : Fin 4) (y 1) (rowAt t (y 2)) (y 3) : S4x16x512x512.Idx) := by
  obtain ⟨_, _, _, _, e0, e1, e2, e3⟩ := idx_facts t
  have h0 : (y 0).val < 1 := (y 0).isLt
  funext a; apply Fin.ext
  match a with
  | ⟨0, _⟩ => show win0_3.index t (0 : Fin 4) * 1 + 1 * (y 0).val = (grid0.coords t 0).val; omega
  | ⟨1, _⟩ => show win0_3.index t (1 : Fin 4) * 16 + 1 * (y 1).val = (y 1).val; omega
  | ⟨2, _⟩ => show win0_3.index t (2 : Fin 4) * 256 + 1 * (y 2).val = (grid0.coords t 1).val * 256 + (y 2).val; omega
  | ⟨3, _⟩ => show win0_3.index t (3 : Fin 4) * 512 + 1 * (y 3).val = (y 3).val; omega

/-- The table that every point takes whole. -/
theorem iblk0_apply (c : Dev nD) (t : Fin cfg0.N) (b : Fin 4) (k : Fin 16) (p q : Fin 2) (j : Fin 4) (hj : j.val = 2 * p.val + q.val)
    (z : S4x16x512x512.Idx) (hz : z = ix4 b k ⟨p.val, by omega⟩ ⟨q.val, by omega⟩) :
    (iblk m c 0 t : Vec F S4x64 .f32) (cornerIdx b k j) = m ((c : Thread nD τ).loc main_arg0) z := by
  show V m c main_v1 (((cfg0.win 0).blk t).view.emb (cornerIdx b k j)) = _
  rw [emb0, V_main_v1]
  exact table_apply _ b k p q j hj z hz

/-- The block of row fractions at a point. -/
theorem iblk1_apply (c : Dev nD) (t : Fin cfg0.N) (h : Fin 256) (w : Fin 512) :
    (extf .f32 (iblk m c 1 t : Vec F S1x256x512 .bf16) bitsLt_bf16_f32 : FVec F S1x256x512 .f32) (ix3 0 h w)
      = narrowed (m ((c : Thread nD τ).loc main_arg1) (ix4 (grid0.coords t 0 : Fin 4) (rowAt t h) w 0 : S4x512x512x2.Idx)) := by
  show FloatOps.extf .f32 bitsLt_bf16_f32 (V m c main_v4 (((cfg0.win 1).blk t).view.emb (ix3 (0 : Fin 1) h w))) = _
  rw [emb1, V_main_v4]
  exact congrArg narrowed (plane_apply _ 0 slices_S4x512x512x2_S4x512x512x1_0_0_0_0 _ _ _)

/-- The block of column fractions at a point. -/
theorem iblk2_apply (c : Dev nD) (t : Fin cfg0.N) (h : Fin 256) (w : Fin 512) :
    (extf .f32 (iblk m c 2 t : Vec F S1x256x512 .bf16) bitsLt_bf16_f32 : FVec F S1x256x512 .f32) (ix3 0 h w)
      = narrowed (m ((c : Thread nD τ).loc main_arg1) (ix4 (grid0.coords t 0 : Fin 4) (rowAt t h) w 1 : S4x512x512x2.Idx)) := by
  show FloatOps.extf .f32 bitsLt_bf16_f32 (V m c main_v7 (((cfg0.win 2).blk t).view.emb (ix3 (0 : Fin 1) h w))) = _
  rw [emb2, V_main_v7]
  exact congrArg narrowed (plane_apply _ 1 slices_S4x512x512x2_S4x512x512x1_0_0_0_1 _ _ _)

/-- A point's block is `result` of the arguments at the indices it goes to. -/
theorem block_eq (c : Dev nD) (t : Fin cfg0.N) (y : S1x16x256x512.Idx) :
    blockAt (grid0.coords t 0) (iblk m c 0 t) (iblk m c 1 t) (iblk m c 2 t) y
      = result (m ((c : Thread nD τ).loc main_arg0)) (m ((c : Thread nD τ).loc main_arg1))
          (ix4 (grid0.coords t 0 : Fin 4) (y 1) (rowAt t (y 2)) (y 3)) :=
  mix_congr (iblk0_apply m c t _ _ 0 0 0 rfl _ rfl) (iblk0_apply m c t _ _ 0 1 1 rfl _ rfl) (iblk0_apply m c t _ _ 1 0 2 rfl _ rfl)
    (iblk0_apply m c t _ _ 1 1 3 rfl _ rfl) (iblk1_apply m c t (y 2) (y 3)) (iblk2_apply m c t (y 2) (y 3))

/-- The blocks that the points write back cover the result. -/
theorem covers3 : (cfg0.win 3).Covers := by decide +kernel

/-- THE ARRAY AFTER THE RUN. -/
theorem final_eq (c : Dev nD) : (dats m 0 c).arrAt 3 cfg0.N
    = result (m ((c : Thread nD τ).loc main_arg0)) (m ((c : Thread nD τ).loc main_arg1)) := by
  refine (dats m 0 c).arrAt_eq_of_covers 3 _ covers3 fun t _ y => ?_
  refine Eq.trans ?_ (congrArg (result _ _) (emb3 t y).symm)
  refine Eq.trans ?_ (block_eq m c t y)
  show (dats m 0 c).after 3 t y = _
  rw [after0_3]
  exact out_apply c (grid0.coords t) _ _ _ _ _ _ _ _ (iblk m c 0 t) (iblk m c 1 t) (iblk m c 2 t) y

end Cert.Proof

end
-- ==== Proof.Gather.lean ====
/- THE REFERENCE'S READS OF THE VOLUME. Each is a gather of the channels-last volume at (batch, row, column) starts: the
   batch an iota, the row and column each an integer array reflected into the volume by the remainder rule (`reflect`) and,
   were it negative, counted from the end (`wrap`). `gather_apply`: at given words the gather reads the volume at the words;
   `starts_apply*`: the three words of an index; `reflect0 / reflect1`: 0 and 1 reflect and wrap to themselves. -/
module

public import proofs.«01_k».proof.Proof.Gen.ReferenceIdeal.Read
public import Idealize.ShloMosaic.Lib.ValueIdxCore

@[expose] public section

noncomputable section

namespace Cert.Proof

open Cert.ReferenceIdeal Cert.ReferenceIdeal.Gen Cert.ReferenceIdeal.Read
open Idealize.ShloMosaic Idealize.ShloMosaic.TcCoe Idealize.ShloMosaic.ValueIdx

variable {F : FTy → Type} [FloatOps F]

/-! ## The gather at an index -/

abbrev gatherDims := gather_S4x512x512x16_S4x512x512x3_S4x512x512x16_3_012_n_n_012_3_11116

/-- The start on a start axis `p`, the word being in range. -/
theorem start_apply (idx : IVec S4x512x512x3 32) (y : S4x512x512x16.Idx) (p : Fin 3) (n : Nat)
    (hn : n ≤ S4x512x512x16.size (p.castSucc : Fin 4) - 1)
    (e : (idx (ix4 (y 0) (y 1) (y 2) p)).toInt.toNat = n) : gatherDims.start y idx (p.castSucc : Fin 4) = n := by
  have ha : (p.castSucc : Fin 4) ∈ gatherDims.startIndexMap :=
    (by decide : ∀ p : Fin 3, p.castSucc ∈ ([0, 1, 2] : List (Fin 4))) p
  have hp : List.idxOf (p.castSucc : Fin 4) gatherDims.startIndexMap = p.val :=
    (by decide : ∀ p : Fin 3, List.idxOf p.castSucc ([0, 1, 2] : List (Fin 4)) = p.val) p
  have hs : gatherDims.sliceSizes (p.castSucc : Fin 4) = 1 :=
    (by decide : ∀ p : Fin 3, (![1, 1, 1, 16] : Fin 4 → Nat) p.castSucc = 1) p
  have key : gatherDims.siIdx y ⟨gatherDims.startIndexMap.idxOf (p.castSucc : Fin 4), List.idxOf_lt_length_iff.2 ha⟩
      = ix4 (y 0) (y 1) (y 2) p := by
    funext b; refine Fin.ext ?_
    match b with
    | ⟨0, _⟩ => rfl
    | ⟨1, _⟩ => rfl
    | ⟨2, _⟩ => rfl
    | ⟨3, _⟩ => exact hp
  unfold GatherDims.start
  rw [dif_pos ha, key, hs]
  exact (congrArg (min · _) e).trans (Nat.min_eq_left hn)

/-- A start axis has no offset coordinate. -/
theorem off_apply (y : S4x512x512x16.Idx) (p : Fin 3) : gatherDims.offCoord y (p.castSucc : Fin 4) = 0 :=
  GatherDims.offCoord_eq_zero _ _ _ fun k => ((GatherDims.mem_sKept _ _).mp k).1
    ((by decide : ∀ p : Fin 3, p.castSucc ∈ ([0, 1, 2] : List (Fin 4))) p)

/-- THE GATHER AT AN INDEX whose three words are `b`, `h`, `w`: the volume there, in the index's channel. -/
theorem gather_apply {α : Type} (x : S4x512x512x16.Idx → α) (idx : IVec S4x512x512x3 32) (y : S4x512x512x16.Idx)
    (b : Fin 4) (h w : Fin 512) (eb : (idx (ix4 (y 0) (y 1) (y 2) 0)).toInt.toNat = b.val)
    (eh : (idx (ix4 (y 0) (y 1) (y 2) 1)).toInt.toNat = h.val) (ew : (idx (ix4 (y 0) (y 1) (y 2) 2)).toInt.toNat = w.val) :
    Host.gather gatherDims x idx y = x (ix4 b h w (y 3)) := by
  unfold Host.gather
  refine congrArg x (funext fun a => Fin.ext ?_)
  show gatherDims.start y idx a + gatherDims.batchCoord y a + gatherDims.offCoord y a = _
  rw [GatherDims.batchCoord_eq_zero _ _ _ List.not_mem_nil, Nat.add_zero]
  match a with
  | ⟨0, _⟩ => exact congrArg₂ (· + ·) (start_apply idx y 0 b.val (by show b.val ≤ 4 - 1; omega) eb) (off_apply y 0)
  | ⟨1, _⟩ => exact congrArg₂ (· + ·) (start_apply idx y 1 h.val (by show h.val ≤ 512 - 1; omega) eh) (off_apply y 1)
  | ⟨2, _⟩ => exact congrArg₂ (· + ·) (start_apply idx y 2 w.val (by show w.val ≤ 512 - 1; omega) ew) (off_apply y 2)
  | ⟨3, _⟩ =>
    have h3 : (3 : Fin 4) ∉ gatherDims.startIndexMap := (by decide : (3 : Fin 4) ∉ ([0, 1, 2] : List (Fin 4)))
    have e : gatherDims.start y idx (3 : Fin 4) = 0 := by unfold GatherDims.start; rw [dif_neg h3]
    exact (congrArg (· + gatherDims.offCoord y (3 : Fin 4)) e).trans (Nat.zero_add _)

/-! ## The starts -/

/-- An index, were it negative, counted from the end of an axis of extent `n`. -/
def wrap (n a : BitVec 32) : BitVec 32 := Scalar.select (IntOp.cmpi .slt a 0#32) (IntOp.addi a n) a

/-- The remainder by the period 1024 with the divisor's sign. -/
def rem1024 (a : BitVec 32) : BitVec 32 :=
  let d := Scalar.select (IntOp.cmpi .eq 1024#32 0#32) 1#32 1024#32
  let r := IntOp.remsi .host a d
  Scalar.select (IntOp.andi (IntOp.cmpi .ne (IntOp.cmpi .slt r 0#32) (IntOp.cmpi .slt d 0#32)) (IntOp.cmpi .ne r 0#32))
    (IntOp.addi r d) r

/-- The reflection of an index into the 512 positions of an axis. -/
def reflect (a : BitVec 32) : BitVec 32 :=
  Scalar.select (IntOp.cmpi .sge (rem1024 a) 512#32) (IntOp.subi 1023#32 (rem1024 a)) (rem1024 a)

theorem reflect0 : wrap 512#32 (reflect 0#32) = 0#32 := by decide +kernel
theorem reflect1 : wrap 512#32 (reflect (IntOp.addi 0#32 1#32)) = 1#32 := by decide +kernel

/-- The starts of a gather: the batch of the index, then a row and a column. -/
def starts (batch : IVec S4x1x1 32) (h w : IVec S4x512x512 32) : IVec S4x512x512x3 32 :=
  concatenate S4x512x512x3 3
    [⟨S4x512x512x1, broadcastInDim S4x512x512x1 ![0, 1, 2] bcast_S4x512x512_S4x512x512x1_0_1_2
        (broadcastInDim S4x512x512 ![0, 1, 2] bcast_S4x1x1_S4x512x512_0_1_2 batch)⟩,
     ⟨S4x512x512x1, broadcastInDim S4x512x512x1 ![0, 1, 2] bcast_S4x512x512_S4x512x512x1_0_1_2 h⟩,
     ⟨S4x512x512x1, broadcastInDim S4x512x512x1 ![0, 1, 2] bcast_S4x512x512_S4x512x512x1_0_1_2 w⟩]
    concatenates_S4x512x512x1_S4x512x512x1_S4x512x512x1_S4x512x512x3_d3

variable (batch : IVec S4x1x1 32) (hh ww : IVec S4x512x512 32) (b : Fin 4) (h w : Fin 512)

/-- Three pieces of one column each, side by side. -/
abbrev pieces (x0 x1 x2 : IVec S4x512x512x1 32) : List ((s : Shape) × (s.Idx → BitVec 32)) :=
  [⟨S4x512x512x1, x0⟩, ⟨S4x512x512x1, x1⟩, ⟨S4x512x512x1, x2⟩]

/-- An index of the joined array and the one of a piece agree off the joined axis. -/
theorem off_axis (p : Fin 3) : ∀ a : Fin 4, a ≠ 3 →
    ((ix4 b h w (0 : Fin 1) : S4x512x512x1.Idx) a).val = ((ix4 b h w p : S4x512x512x3.Idx) a).val := by
  intro a ha
  match a with
  | ⟨0, _⟩ => rfl
  | ⟨1, _⟩ => rfl
  | ⟨2, _⟩ => rfl
  | ⟨3, _⟩ => exact absurd rfl ha

theorem pieces_apply (x0 x1 x2 : IVec S4x512x512x1 32) (hc : Shape.Concatenates ((pieces x0 x1 x2).map (·.1)) S4x512x512x3 3) :
    concatenate S4x512x512x3 3 (pieces x0 x1 x2) hc (ix4 b h w 0) = x0 (ix4 b h w 0)
    ∧ concatenate S4x512x512x3 3 (pieces x0 x1 x2) hc (ix4 b h w 1) = x1 (ix4 b h w 0)
    ∧ concatenate S4x512x512x3 3 (pieces x0 x1 x2) hc (ix4 b h w 2) = x2 (ix4 b h w 0) :=
  ⟨concatenate_apply_piece 3 (pieces x0 x1 x2) hc _ 0 (by show 0 < 3; omega) S4x512x512x1 x0 rfl rfl 0 rfl (ix4 b h w 0)
      (off_axis b h w 0) rfl,
    concatenate_apply_piece 3 (pieces x0 x1 x2) hc _ 1 (by show 1 < 3; omega) S4x512x512x1 x1 rfl rfl 1 rfl (ix4 b h w 0)
      (off_axis b h w 1) rfl,
    concatenate_apply_piece 3 (pieces x0 x1 x2) hc _ 2 (by show 2 < 3; omega) S4x512x512x1 x2 rfl rfl 2 rfl (ix4 b h w 0)
      (off_axis b h w 2) rfl⟩

/-- A broadcast along a new last axis, at an index. -/
theorem spread_apply (v : IVec S4x512x512 32) :
    broadcastInDim S4x512x512x1 ![0, 1, 2] bcast_S4x512x512_S4x512x512x1_0_1_2 v (ix4 b h w 0) = v (ix3 b h w) := by
  refine congrArg v (funext fun a => Fin.ext ?_)
  match a with
  | ⟨0, _⟩ => rfl
  | ⟨1, _⟩ => rfl
  | ⟨2, _⟩ => rfl

theorem starts_apply0 : starts batch hh ww (ix4 b h w 0) = batch (ix3 b 0 0) := by
  refine Eq.trans (pieces_apply b h w _ _ _ _).1 ((spread_apply b h w _).trans ?_)
  refine congrArg batch (funext fun a => Fin.ext ?_)
  match a with
  | ⟨0, _⟩ => rfl
  | ⟨1, _⟩ => rfl
  | ⟨2, _⟩ => rfl

theorem starts_apply1 : starts batch hh ww (ix4 b h w 1) = hh (ix3 b h w) :=
  Eq.trans (pieces_apply b h w _ _ _ _).2.1 (spread_apply b h w _)

theorem starts_apply2 : starts batch hh ww (ix4 b h w 2) = ww (ix3 b h w) :=
  Eq.trans (pieces_apply b h w _ _ _ _).2.2 (spread_apply b h w _)

theorem batch_apply : ∀ b : Fin 4, (wrap 4#32 (BitVec.ofNat 32 b.val)).toInt.toNat = b.val := by decide +kernel

end Cert.Proof

end
-- ==== Proof.RefValue.lean ====
/- THE REFERENCE'S RESULT IN ITS ARGUMENTS, where every grid coordinate is a real in [0, 1): the floor of a coordinate is 0,
   its fraction is itself, and the four reads of the volume are at rows and columns 0 and 1. So the result at (b, k, h, w) is
   the sum of the four corner values of channel k, each weighted by the fractions of (b, h, w) (`reference_apply`). -/
module

public import proofs.«01_k».proof.Proof.Gather
public import Idealize.ShloMosaic.Lib.IdealHost

@[expose] public section

noncomputable section

namespace Cert.Proof

open Cert.ReferenceIdeal Cert.ReferenceIdeal.Gen Cert.ReferenceIdeal.Read
open Idealize.ShloMosaic Idealize.ShloMosaic.TcCoe Idealize.ShloMosaic.ValueIdx

/-! ## The integer stages, one element at a time (over any float values) -/

section Stages
variable {F : FTy → Type} [FloatOps F]
variable (x1 : (⟨S4x512x512x2, .f32⟩ : BufTy).Contents (Elt F)) (i : S4x512x512.Idx) (b : Fin 4)

theorem v34_eq : val_main_v34 x1 i = reflect (val_main_v9 x1 i) := rfl
theorem v54_eq : val_main_v54 x1 i = reflect (IntOp.addi (val_main_v9 x1 i) 1#32) := rfl
theorem v74_eq : val_main_v74 x1 i = reflect (val_main_v10 x1 i) := rfl
theorem v94_eq : val_main_v94 x1 i = reflect (IntOp.addi (val_main_v10 x1 i) 1#32) := rfl

theorem v116_eq : val_main_v116 x1 = starts (val_main_v101 (F := F)) (fun i => wrap 512#32 (val_main_v34 x1 i))
    (fun i => wrap 512#32 (val_main_v74 x1 i)) := rfl
theorem v137_eq : val_main_v137 x1 = starts (val_main_v101 (F := F)) (fun i => wrap 512#32 (val_main_v34 x1 i))
    (fun i => wrap 512#32 (val_main_v94 x1 i)) := rfl
theorem v158_eq : val_main_v158 x1 = starts (val_main_v101 (F := F)) (fun i => wrap 512#32 (val_main_v54 x1 i))
    (fun i => wrap 512#32 (val_main_v74 x1 i)) := rfl
theorem v179_eq : val_main_v179 x1 = starts (val_main_v101 (F := F)) (fun i => wrap 512#32 (val_main_v54 x1 i))
    (fun i => wrap 512#32 (val_main_v94 x1 i)) := rfl

theorem v101_apply : val_main_v101 (F := F) (ix3 b 0 0) = wrap 4#32 (BitVec.ofNat 32 b.val) := rfl

/-- A read of the volume whose row and column words are `p` and `q`. -/
theorem read_apply (x0 : (⟨S4x16x512x512, .f32⟩ : BufTy).Contents (Elt F)) (hh ww : IVec S4x512x512 32) (h w : Fin 512) (k : Fin 16)
    (p q : Fin 512) (ep : (hh (ix3 b h w)).toInt.toNat = p.val) (eq : (ww (ix3 b h w)).toInt.toNat = q.val) :
    Host.gather gatherDims (val_main_v0 x0) (starts (val_main_v101 (F := F)) hh ww) (ix4 b h w k) = x0 (ix4 b k p q) := by
  refine (gather_apply _ _ (ix4 b h w k) b p q ?_ ?_ ?_).trans ?_
  · exact (congrArg (fun v : BitVec 32 => v.toInt.toNat) ((starts_apply0 _ hh ww b h w).trans (v101_apply b))).trans
      (batch_apply b)
  · exact (congrArg (fun v : BitVec 32 => v.toInt.toNat) (starts_apply1 _ hh ww b h w)).trans ep
  · exact (congrArg (fun v : BitVec 32 => v.toInt.toNat) (starts_apply2 _ hh ww b h w)).trans eq
  · refine (val_main_v0_apply x0 _).trans (congrArg x0 (funext fun a => ?_))
    match a with
    | ⟨0, _⟩ => rfl
    | ⟨1, _⟩ => rfl
    | ⟨2, _⟩ => rfl
    | ⟨3, _⟩ => rfl

variable (x0 : (⟨S4x16x512x512, .f32⟩ : BufTy).Contents (Elt F))
theorem v117_eq : val_main_v117 x0 x1 = Host.gather gatherDims (val_main_v0 x0) (val_main_v116 x1) := rfl
theorem v138_eq : val_main_v138 x0 x1 = Host.gather gatherDims (val_main_v0 x0) (val_main_v137 x1) := rfl
theorem v159_eq : val_main_v159 x0 x1 = Host.gather gatherDims (val_main_v0 x0) (val_main_v158 x1) := rfl
theorem v180_eq : val_main_v180 x0 x1 = Host.gather gatherDims (val_main_v0 x0) (val_main_v179 x1) := rfl

end Stages

/-! ## At the extended reals -/

/-- Every grid coordinate is a real number of the first cell. -/
def InCell (g : S4x512x512x2.Idx → EReal) : Prop := ∀ i, ∃ r : ℝ, 0 ≤ r ∧ r < 1 ∧ g i = (r : EReal)

theorem floor_apply {r : ℝ} (h0 : 0 ≤ r) (h1 : r < 1) : Ideal.liftRound Int.floor (r : EReal) = 0 := by
  have e : Int.floor r = 0 := Int.floor_eq_zero_iff.2 ⟨h0, h1⟩
  show (((Int.floor r : ℤ) : ℝ) : EReal) = 0
  rw [e]; simp

theorem word_apply : Ideal.fptosi 32 (0 : EReal) = 0#32 := by
  rw [← EReal.coe_zero, Ideal.fptosi, Ideal.toIntClamped_coe]
  simp

variable (x : S4x16x512x512.Idx → EReal) (g : S4x512x512x2.Idx → EReal) (b : Fin 4) (h w : Fin 512) (k : Fin 16)

/-- The grid's row coordinate at (b, h, w), as the reference slices it out. -/
theorem v2_apply : val_main_v2 (F := Ideal) g (ix3 b h w) = g (ix4 b h w 0) := by
  rw [val_main_v2_apply, val_main_v1_apply]
  refine congrArg g (funext fun a => Fin.ext ?_)
  have hb := b.isLt
  have hh := h.isLt
  have hw := w.isLt
  match a with
  | ⟨0, _⟩ => show ((b.val * 512 + h.val) * 512 + w.val) / 262144 = b.val; omega
  | ⟨1, _⟩ => show ((b.val * 512 + h.val) * 512 + w.val) / 512 % 512 = h.val; omega
  | ⟨2, _⟩ => show ((b.val * 512 + h.val) * 512 + w.val) / 1 % 512 = w.val; omega
  | ⟨3, _⟩ => rfl

/-- Its column coordinate. -/
theorem v4_apply : val_main_v4 (F := Ideal) g (ix3 b h w) = g (ix4 b h w 1) := by
  rw [val_main_v4_apply, val_main_v3_apply]
  refine congrArg g (funext fun a => Fin.ext ?_)
  have hb := b.isLt
  have hh := h.isLt
  have hw := w.isLt
  match a with
  | ⟨0, _⟩ => show ((b.val * 512 + h.val) * 512 + w.val) / 262144 = b.val; omega
  | ⟨1, _⟩ => show ((b.val * 512 + h.val) * 512 + w.val) / 512 % 512 = h.val; omega
  | ⟨2, _⟩ => show ((b.val * 512 + h.val) * 512 + w.val) / 1 % 512 = w.val; omega
  | ⟨3, _⟩ => rfl

section Cell
variable {g} (hg : InCell g)
include hg

theorem v5_apply : val_main_v5 (F := Ideal) g (ix3 b h w) = (0 : EReal) := by
  obtain ⟨r, h0, h1, e⟩ := hg (ix4 b h w 0)
  exact (congrArg (Ideal.liftRound Int.floor) ((v2_apply g b h w).trans e)).trans (floor_apply h0 h1)

theorem v6_apply : val_main_v6 (F := Ideal) g (ix3 b h w) = (0 : EReal) := by
  obtain ⟨r, h0, h1, e⟩ := hg (ix4 b h w 1)
  exact (congrArg (Ideal.liftRound Int.floor) ((v4_apply g b h w).trans e)).trans (floor_apply h0 h1)

/-- The row fraction is the row coordinate. -/
theorem v7_apply : val_main_v7 (F := Ideal) g (ix3 b h w) = g (ix4 b h w 0) :=
  (congrArg₂ (fun p q : EReal => p - q) (v2_apply g b h w) (v5_apply b h w hg)).trans (sub_zero _)

/-- The column fraction is the column coordinate. -/
theorem v8_apply : val_main_v8 (F := Ideal) g (ix3 b h w) = g (ix4 b h w 1) :=
  (congrArg₂ (fun p q : EReal => p - q) (v4_apply g b h w) (v6_apply b h w hg)).trans (sub_zero _)

theorem v9_apply : val_main_v9 (F := Ideal) g (ix3 b h w) = 0#32 :=
  (congrArg (Ideal.fptosi 32) (v5_apply b h w hg)).trans word_apply

theorem v10_apply : val_main_v10 (F := Ideal) g (ix3 b h w) = 0#32 :=
  (congrArg (Ideal.fptosi 32) (v6_apply b h w hg)).trans word_apply

theorem row0 : (wrap 512#32 (val_main_v34 (F := Ideal) g (ix3 b h w))).toInt.toNat = (0 : Fin 512).val := by
  rw [v34_eq, v9_apply b h w hg, reflect0]; rfl
theorem row1 : (wrap 512#32 (val_main_v54 (F := Ideal) g (ix3 b h w))).toInt.toNat = (1 : Fin 512).val := by
  rw [v54_eq, v9_apply b h w hg, reflect1]; rfl
theorem col0 : (wrap 512#32 (val_main_v74 (F := Ideal) g (ix3 b h w))).toInt.toNat = (0 : Fin 512).val := by
  rw [v74_eq, v10_apply b h w hg, reflect0]; rfl
theorem col1 : (wrap 512#32 (val_main_v94 (F := Ideal) g (ix3 b h w))).toInt.toNat = (1 : Fin 512).val := by
  rw [v94_eq, v10_apply b h w hg, reflect1]; rfl

/-! ## The four reads -/

theorem v117_apply : val_main_v117 (F := Ideal) x g (ix4 b h w k) = x (ix4 b k 0 0) := by
  rw [v117_eq, v116_eq]
  refine read_apply (F := Ideal) b x _ _ h w k 0 0 ?_ ?_
  · exact row0 b h w hg
  · exact col0 b h w hg
theorem v138_apply : val_main_v138 (F := Ideal) x g (ix4 b h w k) = x (ix4 b k 0 1) := by
  rw [v138_eq, v137_eq]
  refine read_apply (F := Ideal) b x _ _ h w k 0 1 ?_ ?_
  · exact row0 b h w hg
  · exact col1 b h w hg
theorem v159_apply : val_main_v159 (F := Ideal) x g (ix4 b h w k) = x (ix4 b k 1 0) := by
  rw [v159_eq, v158_eq]
  refine read_apply (F := Ideal) b x _ _ h w k 1 0 ?_ ?_
  · exact row1 b h w hg
  · exact col0 b h w hg
theorem v180_apply : val_main_v180 (F := Ideal) x g (ix4 b h w k) = x (ix4 b k 1 1) := by
  rw [v180_eq, v179_eq]
  refine read_apply (F := Ideal) b x _ _ h w k 1 1 ?_ ?_
  · exact row1 b h w hg
  · exact col1 b h w hg

end Cell

/-! ## The weights and the sum -/

theorem v181_apply : val_main_v181 (F := Ideal) g (ix4 b h w 0) = val_main_v7 (F := Ideal) g (ix3 b h w) :=
  (val_main_v181_apply (F := Ideal) g _).trans (congrArg (val_main_v7 (F := Ideal) g) (funext fun a => match a with
    | ⟨0, _⟩ => rfl
    | ⟨1, _⟩ => rfl
    | ⟨2, _⟩ => rfl))

theorem v182_apply : val_main_v182 (F := Ideal) g (ix4 b h w 0) = val_main_v8 (F := Ideal) g (ix3 b h w) :=
  (val_main_v182_apply (F := Ideal) g _).trans (congrArg (val_main_v8 (F := Ideal) g) (funext fun a => match a with
    | ⟨0, _⟩ => rfl
    | ⟨1, _⟩ => rfl
    | ⟨2, _⟩ => rfl))

/-- The position a weight is read at, whatever the channel. -/
theorem idx_weight : idx_main_v185 (ix4 b h w k) = ix4 b h w 0 := funext fun a => match a with
  | ⟨0, _⟩ => rfl
  | ⟨1, _⟩ => rfl
  | ⟨2, _⟩ => rfl
  | ⟨3, _⟩ => rfl

theorem one_apply : FloatOps.ofBits (F := Ideal) .f32 0x3F800000#32 = (1 : EReal) := Ideal.ofBits_one_f32

/-- The four corner values, each times its weights, added in the reference's order. -/
def weighted (v00 v01 v10 v11 s t : EReal) : EReal :=
  v00 * (1 - s) * (1 - t) + v01 * (1 - s) * t + v10 * s * (1 - t) + v11 * s * t

/-- The sum before its last transpose. -/
theorem v209_apply : val_main_v209 (F := Ideal) x g (ix4 b h w k)
    = weighted (val_main_v117 (F := Ideal) x g (ix4 b h w k)) (val_main_v138 (F := Ideal) x g (ix4 b h w k))
        (val_main_v159 (F := Ideal) x g (ix4 b h w k)) (val_main_v180 (F := Ideal) x g (ix4 b h w k))
        (val_main_v7 (F := Ideal) g (ix3 b h w)) (val_main_v8 (F := Ideal) g (ix3 b h w)) := by
  rw [← v181_apply, ← v182_apply, weighted, ← one_apply, ← idx_weight b h w k]
  simp only [val_main_v209_apply, val_main_v204_apply, val_main_v197_apply, val_main_v190_apply, val_main_v186_apply,
    val_main_v196_apply, val_main_v194_apply, val_main_v203_apply, val_main_v199_apply, val_main_v208_apply, val_main_v206_apply,
    val_main_v185_apply, val_main_v189_apply, val_main_v193_apply, val_main_v195_apply, val_main_v198_apply, val_main_v202_apply,
    val_main_v205_apply, val_main_v207_apply, val_main_v184_apply, val_main_v188_apply, val_main_v192_apply, val_main_v201_apply,
    val_main_v183_apply, val_main_v187_apply, val_main_v191_apply, val_main_v200_apply]
  rfl

/-- THE REFERENCE: at (b, k, h, w) the weighted sum of channel k's four corners, by the coordinates at (b, h, w). -/
theorem reference_apply {g : S4x512x512x2.Idx → EReal} (hg : InCell g) (y : S4x16x512x512.Idx) :
    val_main_v210 (F := Ideal) x g y = weighted (x (ix4 (y 0) (y 1) 0 0)) (x (ix4 (y 0) (y 1) 0 1)) (x (ix4 (y 0) (y 1) 1 0))
      (x (ix4 (y 0) (y 1) 1 1)) (g (ix4 (y 0) (y 2) (y 3) 0)) (g (ix4 (y 0) (y 2) (y 3) 1)) := by
  refine (val_main_v210_apply (F := Ideal) x g y).trans ?_
  have e : idx_main_v210 y = ix4 (y 0) (y 2) (y 3) (y 1) := funext fun a => match a with
    | ⟨0, _⟩ => rfl
    | ⟨1, _⟩ => rfl
    | ⟨2, _⟩ => rfl
    | ⟨3, _⟩ => rfl
  refine (congrArg (val_main_v209 (F := Ideal) x g) e).trans ((v209_apply x g (y 0) (y 2) (y 3) (y 1)).trans ?_)
  refine congr (congr (congr (congr (congr (congrArg weighted ?_) ?_) ?_) ?_) ?_) ?_
  · exact v117_apply x (y 0) (y 2) (y 3) (y 1) hg
  · exact v138_apply x (y 0) (y 2) (y 3) (y 1) hg
  · exact v159_apply x (y 0) (y 2) (y 3) (y 1) hg
  · exact v180_apply x (y 0) (y 2) (y 3) (y 1) hg
  · exact v7_apply (y 0) (y 2) (y 3) hg
  · exact v8_apply (y 0) (y 2) (y 3) hg

end Cert.Proof

end
-- ==== Proof.Pre.lean ====
/- WHAT THE PRECONDITION SAYS OF THE ARGUMENTS, at the extended reals: every grid coordinate is a real in [0, 1), and the
   2 x 2 corner of every plane of the volume holds reals. -/
module

public import proofs.«01_k».proof.Pre_in_first_voxel
public import proofs.«01_k».proof.Proof.Gen.Pre_in_first_voxel
public import proofs.«01_k».proof.Proof.RefValue
public import Idealize.ShloMosaic.Lib.ReduceAll

@[expose] public section

noncomputable section

namespace Cert.Proof

open Cert.Pre_in_first_voxel Cert.Pre_in_first_voxel.Gen
open Idealize.ShloMosaic Idealize.ShloMosaic.ValueIdx

/-- The 2 x 2 corner of every plane holds real numbers. -/
def RealCorner (x : S4x16x512x512.Idx → EReal) : Prop :=
  ∀ (b : Fin 4) (k : Fin 16) (p q : Fin 512), p.val < 2 → q.val < 2 → ∃ r : ℝ, x (ix4 b k p q) = (r : EReal)

theorem ofBool_one {p : Prop} [Decidable p] (h : BitVec.ofBool (decide p) = 1#1) : p := by
  by_cases hp : p
  · exact hp
  · simp [hp] at h

theorem zero_apply : Ideal.ofBits .f32 0x00000000#32 = (0 : EReal) := Ideal.ofBits_zero_f32
theorem top_apply : Ideal.ofBits .f32 0x7F800000#32 = (⊤ : EReal) := by simp [Ideal.ofBits, Ideal.ieee]

/-- A value between 0 and 1 is a real. -/
theorem real_of_cell {v : EReal} (h0 : 0 ≤ v) (h1 : v < 1) : ∃ r : ℝ, 0 ≤ r ∧ r < 1 ∧ v = (r : EReal) := by
  induction v with
  | bot => exact absurd h0 (by simp)
  | top => exact absurd h1 (by simp)
  | coe r => exact ⟨r, by exact_mod_cast h0, by exact_mod_cast h1, rfl⟩

/-- A value whose magnitude is below the infinity is a real. -/
theorem real_of_magnitude {v : EReal} (h : max v (-v) < ⊤) : ∃ r : ℝ, v = (r : EReal) := by
  induction v with
  | bot => exact absurd h (by simp)
  | top => exact absurd h (by simp)
  | coe r => exact ⟨r, rfl⟩

theorem sub_one_idx (i j : S_.Idx) : i = j := funext fun a => a.elim0
instance : Subsingleton S_.Idx := ⟨sub_one_idx⟩

variable {x : S4x16x512x512.Idx → EReal} {g : S4x512x512x2.Idx → EReal} (hp : fn (F := Ideal) x g = fun _ => 1#1)
include hp

theorem pre_cell : InCell g := fun i => by
  have h := (IntOp.andi_eq_one.1 (congrFun hp (fun a => a.elim0))).1
  have e := IntOp.andi_eq_one.1 (Host.reduce_andi_all _ _ _ _ _ h i)
  have e0 : Ideal.ofBits .f32 0x00000000#32 ≤ g i := ofBool_one e.1
  have e1 : g i < Ideal.ofBits .f32 0x3F800000#32 := ofBool_one e.2
  rw [zero_apply] at e0
  rw [Ideal.ofBits_one_f32] at e1
  exact real_of_cell e0 e1

theorem pre_corner : RealCorner x := fun b k p q hp2 hq2 => by
  have h := (IntOp.andi_eq_one.1 (congrFun hp (fun a => a.elim0))).2
  have e := Host.reduce_andi_all _ _ _ _ _ h (ix4 b k ⟨p.val, hp2⟩ ⟨q.val, hq2⟩)
  have e1 : max (extractStridedSlice S4x16x2x2 ![0, 0, 0, 0] x Facts.slices_S4x16x512x512_S4x16x2x2_0_0_0_0 (ix4 b k ⟨p.val, hp2⟩ ⟨q.val, hq2⟩))
      (-(extractStridedSlice S4x16x2x2 ![0, 0, 0, 0] x Facts.slices_S4x16x512x512_S4x16x2x2_0_0_0_0 (ix4 b k ⟨p.val, hp2⟩ ⟨q.val, hq2⟩)))
      < Ideal.ofBits .f32 0x7F800000#32 := ofBool_one e
  have s : extractStridedSlice S4x16x2x2 ![0, 0, 0, 0] x Facts.slices_S4x16x512x512_S4x16x2x2_0_0_0_0 (ix4 b k ⟨p.val, hp2⟩ ⟨q.val, hq2⟩)
      = x (ix4 b k p q) := extractStridedSlice_apply ![0, 0, 0, 0] x Facts.slices_S4x16x512x512_S4x16x2x2_0_0_0_0
    (ix4 b k ⟨p.val, hp2⟩ ⟨q.val, hq2⟩ : S4x16x2x2.Idx) (ix4 b k p q : S4x16x512x512.Idx) (fun a => match a with
    | ⟨0, _⟩ => (Nat.zero_add _).symm
    | ⟨1, _⟩ => (Nat.zero_add _).symm
    | ⟨2, _⟩ => (Nat.zero_add _).symm
    | ⟨3, _⟩ => (Nat.zero_add _).symm)
  rw [s, top_apply] at e1
  exact real_of_magnitude e1

end Cert.Proof

end
-- ==== Proof.Algebra.lean ====
/- THE ALGEBRA, at the extended reals: over real values the kernel's nested interpolation is the reference's weighted sum. -/
module

public import proofs.«01_k».proof.Proof.KernelValue
public import proofs.«01_k».proof.Proof.RefValue
public import proofs.«01_k».proof.Proof.Pre

@[expose] public section

noncomputable section

namespace Cert.Proof

open Idealize.ShloMosaic Idealize.ShloMosaic.ValueIdx

/-- The kernel's form at the extended reals. -/
theorem mix_apply (v00 v01 v10 v11 s t : EReal) : mix (F := Ideal) v00 v01 v10 v11 s t
    = v00 + s * (v10 - v00) + t * ((v01 - v00) + s * ((v11 - v10) - (v01 - v00))) := rfl

theorem mix_eq_weighted (v00 v01 v10 v11 s t : ℝ) :
    mix (F := Ideal) (v00 : EReal) (v01 : EReal) (v10 : EReal) (v11 : EReal) (s : EReal) (t : EReal)
      = weighted v00 v01 v10 v11 s t := by
  rw [mix_apply, weighted]
  norm_cast
  ring

/-- Narrowing and widening a coordinate is the identity. -/
theorem narrowed_apply (v : EReal) : narrowed (F := Ideal) v = v := rfl

/-- THE TWO RESULTS AGREE where the precondition holds. -/
theorem result_eq_reference (x : Cert.ReferenceIdeal.S4x16x512x512.Idx → EReal) (g : Cert.ReferenceIdeal.S4x512x512x2.Idx → EReal)
    (hp : Cert.Pre_in_first_voxel.fn (F := Ideal) x g = fun _ => 1#1) :
    Cert.ReferenceIdeal.Read.val_main_v210 (F := Ideal) x g = result (F := Ideal) x g := by
  funext y
  have hg : InCell g := pre_cell hp
  have hx : RealCorner x := pre_corner hp
  refine (reference_apply x hg y).trans ?_
  obtain ⟨a, ea⟩ := hx (y 0) (y 1) 0 0 (by decide) (by decide)
  obtain ⟨b, eb⟩ := hx (y 0) (y 1) 0 1 (by decide) (by decide)
  obtain ⟨c, ec⟩ := hx (y 0) (y 1) 1 0 (by decide) (by decide)
  obtain ⟨d, ed⟩ := hx (y 0) (y 1) 1 1 (by decide) (by decide)
  obtain ⟨s, -, -, es⟩ := hg (ix4 (y 0) (y 2) (y 3) 0)
  obtain ⟨t, -, -, et⟩ := hg (ix4 (y 0) (y 2) (y 3) 1)
  refine Eq.trans ?_ (mix_congr (F := Ideal) ea eb ec ed ((narrowed_apply _).trans es) ((narrowed_apply _).trans et)).symm
  rw [ea, eb, ec, ed, es, et]
  exact (mix_eq_weighted a b c d s t).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_first_voxel
public import proofs.«01_k».proof.Proof.Gen.KernelIdeal.Value
public import proofs.«01_k».proof.Proof.Gen.ReferenceIdeal.Run
public import proofs.«01_k».proof.Proof.Gen.ReferenceIdeal.Read
public import proofs.«01_k».proof.Proof.Algebra
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- The reference has no semaphore, and its run leaves its arguments. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The kernel's result is the reference's, element by element. -/
theorem algebraic : Cert.algebraic_KernelIdeal_ReferenceIdeal_pre_in_first_voxel := fun m g m' g' hp hm =>
  ⟨fun c => result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h c => ⟨(h c).1.trans (final_eq m c), (h c).2⟩)
      (Cert.KernelIdeal.Value.run_blocks (F := Ideal) m g),
    (θ_run Cert.ReferenceIdeal.defs _ _).mono (fun _ h c => ⟨(h c).1.trans
        ((Cert.ReferenceIdeal.Read.val_main_v210_eq (F := Ideal) (launchContents m' c)).trans
          ((congrArg₂ (Cert.ReferenceIdeal.Read.val_main_v210 (F := Ideal)) (hm c).1 (hm c).2).trans
            (result_eq_reference _ _ (hp c)))), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_in_first_voxel.Gen.facts,
    fun m g _ => Cert.Kernel.Gen.frame (F := Bits) m g,
    fun m g _ => Cert.KernelIdeal.Gen.frame (F := Ideal) m g,
    fun m g _ => Cert.KernelIdeal.Gen.frame (F := Ideal) m g,
    fun m g _ => frame_reference m g,
    fun m g _ => frame_reference m g,
    trivial,
    algebraic⟩

end Cert.Proof

end
